-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 128, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 128, 8, 64]⟩ ⟨4, ![2, 128, 128, 64]⟩ 2 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x8x64 : S_.BroadcastsInDim S2x128x8x64 (![] : Fin 0 → Fin S2x128x8x64.rank)
  reducesTo_S2x128x8x64_S_d0_1_2_3 : S2x128x8x64.ReducesTo [0, 1, 2, 3] S_

variable [Facts]

def fn {F : FTy → Type} [FloatOps F] (main_arg0 : FVec F S2x128x512 .f32) (main_arg1 : FVec F S512x512 .f32) (main_arg2 : FVec F S512x512 .f32) (main_arg3 : FVec F S2x128x8x64 .f32) (main_arg4 : FVec F S2x128x8x64 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x128x8x64 .f32 := Host.absf main_arg3
  let main_cst_2 : FVec F S_ .f32 := constant S_ .f32 0x7F800000#32
  let main_v10 : FVec F S2x128x8x64 .f32 := broadcastInDim S2x128x8x64 ![] bcast_S_S2x128x8x64 main_cst_2
  let main_v11 : IVec S2x128x8x64 1 := cmpf .olt main_v9 main_v10
  let main_c_3 : IVec S_ 1 := constantI S_ 1 1#1
  let main_v12 : IVec S_ 1 := (fun x v => Host.reduce IntOp.andi x v reducesTo_S2x128x8x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x8192 : Shape := ⟨2, ![512, 8192]⟩
abbrev S8192x512 : Shape := ⟨2, ![8192, 512]⟩
abbrev S2x128x128x64 : Shape := ⟨4, ![2, 128, 128, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x128x128x64 : S_.BroadcastsInDim S2x128x128x64 (![] : Fin 0 → Fin S2x128x128x64.rank)
  reducesTo_S2x128x128x64_S_d0_1_2_3 : S2x128x128x64.ReducesTo [0, 1, 2, 3] S_

variable [Facts]

def fn {F : FTy → Type} [FloatOps F] (main_arg0 : FVec F S2x128x512 .f32) (main_arg1 : FVec F S512x8192 .f32) (main_arg2 : FVec F S8192x512 .f32) (main_arg3 : FVec F S2x128x128x64 .f32) (main_arg4 : FVec F S2x128x128x64 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S2x128x128x64 .f32 := Host.absf main_arg3
  let main_cst_2 : FVec F S_ .f32 := constant S_ .f32 0x7F800000#32
  let main_v10 : FVec F S2x128x128x64 .f32 := broadcastInDim S2x128x128x64 ![] bcast_S_S2x128x128x64 main_cst_2
  let main_v11 : IVec S2x128x128x64 1 := cmpf .olt main_v9 main_v10
  let main_c_3 : IVec S_ 1 := constantI S_ 1 1#1
  let main_v12 : IVec S_ 1 := (fun x v => Host.reduce IntOp.andi x v reducesTo_S2x128x128x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S256x512 : Shape := ⟨2, ![256, 512]⟩
abbrev S8 : Shape := ⟨1, ![8]⟩
abbrev S1x128x1x64 : Shape := ⟨4, ![1, 128, 1, 64]⟩
abbrev S128x64 : Shape := ⟨2, ![128, 64]⟩
abbrev S64x128 : Shape := ⟨2, ![64, 128]⟩
abbrev S128x128 : Shape := ⟨2, ![128, 128]⟩
abbrev S128 : Shape := ⟨1, ![128]⟩
abbrev S128x1 : Shape := ⟨2, ![128, 1]⟩
abbrev S128x512 : Shape := ⟨2, ![128, 512]⟩
abbrev S_ : Shape := ⟨0, ![]⟩
abbrev S1 : Shape := ⟨1, ![1]⟩
abbrev S64x512 : Shape := ⟨2, ![64, 512]⟩
abbrev S32x512 : Shape := ⟨2, ![32, 512]⟩
abbrev S16x512 : Shape := ⟨2, ![16, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S2x128x8x64, .f32⟩
  | .hbm, ⟨4, _⟩ => ⟨S2x128x8x64, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x8x64, .f32⟩
  | .local _ .vmem, ⟨4, _⟩ => ⟨S2x128x8x64, .f32⟩
  | .local _ .vmem, ⟨5, _⟩ => ⟨S2x128x512, .f32⟩
  | .local _ .vmem, ⟨6, _⟩ => ⟨S256x512, .f32⟩
  | .local _ .vmem, ⟨7, _⟩ => ⟨S512x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_97 : BitVec 32 := 1#32
  let v344 : BitVec 32 := Scalar.xori v2 c1_i32_97
  let c1_i32_99 : BitVec 32 := 1#32
  let v345 : BitVec 32 := Scalar.muli v344 c1_i32_99
  let v346 : BitVec 32 := Scalar.addi c0_i32 v345
  v346.toNat
def k0_dev2 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v347 : BitVec 32 := Scalar.xori v2 c2_i32
  let c1_i32_101 : BitVec 32 := 1#32
  let v348 : BitVec 32 := Scalar.muli v347 c1_i32_101
  let v349 : BitVec 32 := Scalar.addi c0_i32_102 v348
  v349.toNat
def k0_dev3 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v350 : BitVec 32 := Scalar.xori v2 c4_i32
  let c1_i32_104 : BitVec 32 := 1#32
  let v351 : BitVec 32 := Scalar.muli v350 c1_i32_104
  let v352 : BitVec 32 := Scalar.addi c0_i32_105 v351
  v352.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v353 : BitVec 32 := Scalar.xori v2 c8_i32
  let c1_i32_107 : BitVec 32 := 1#32
  let v354 : BitVec 32 := Scalar.muli v353 c1_i32_107
  let v355 : BitVec 32 := Scalar.addi c0_i32_108 v354
  v355.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c1_i32_114 : BitVec 32 := 1#32
  let c0_i32_112 : BitVec 32 := 0#32
  let v358 : BitVec 32 := Scalar.shrsi v2 c0_i32_112
  let c1_i32_113 : BitVec 32 := 1#32
  let v359 : BitVec 32 := Scalar.andi v358 c1_i32_113
  let v362 : BitVec 32 := Scalar.subi c1_i32_114 v359
  let c128_i32_115 : BitVec 32 := 128#32
  let v363 : BitVec 32 := Scalar.muli v362 c128_i32_115
  let v364 : BitVec 32 := Scalar.addi v356 v363
  let c0_i32_122 : BitVec 32 := 0#32
  ![v364.toNat, 0]
def k0_dev5 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_111 : BitVec 32 := 1#32
  let v357 : BitVec 32 := Scalar.xori v2 c1_i32_111
  let c1_i32_118 : BitVec 32 := 1#32
  let v365 : BitVec 32 := Scalar.muli v357 c1_i32_118
  let v366 : BitVec 32 := Scalar.addi c0_i32_119 v365
  v366.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let v383 : Index := Scalar.indexCast v361
  let c0_136 : Index := 0#32
  ![v383.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_143 : BitVec 32 := 1#32
  let c1_i32_141 : BitVec 32 := 1#32
  let v392 : BitVec 32 := Scalar.shrsi v2 c1_i32_141
  let c1_i32_142 : BitVec 32 := 1#32
  let v393 : BitVec 32 := Scalar.andi v392 c1_i32_142
  let v396 : BitVec 32 := Scalar.subi c1_i32_143 v393
  let c64_i32_144 : BitVec 32 := 64#32
  let v397 : BitVec 32 := Scalar.muli v396 c64_i32_144
  let v398 : BitVec 32 := Scalar.addi v361 v397
  let c0_i32_151 : BitVec 32 := 0#32
  ![v398.toNat, 0]
def k0_dev6 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_140 : BitVec 32 := 2#32
  let v391 : BitVec 32 := Scalar.xori v2 c2_i32_140
  let c1_i32_147 : BitVec 32 := 1#32
  let v399 : BitVec 32 := Scalar.muli v391 c1_i32_147
  let v400 : BitVec 32 := Scalar.addi c0_i32_148 v399
  v400.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let v417 : Index := Scalar.indexCast v395
  let c0_165 : Index := 0#32
  ![v417.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c1_i32_171 : BitVec 32 := 1#32
  let c2_i32_169 : BitVec 32 := 2#32
  let v426 : BitVec 32 := Scalar.shrsi v2 c2_i32_169
  let c1_i32_170 : BitVec 32 := 1#32
  let v427 : BitVec 32 := Scalar.andi v426 c1_i32_170
  let v430 : BitVec 32 := Scalar.subi c1_i32_171 v427
  let c32_i32_172 : BitVec 32 := 32#32
  let v431 : BitVec 32 := Scalar.muli v430 c32_i32_172
  let v432 : BitVec 32 := Scalar.addi v395 v431
  let c0_i32_178 : BitVec 32 := 0#32
  ![v432.toNat, 0]
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_168 : BitVec 32 := 4#32
  let v425 : BitVec 32 := Scalar.xori v2 c4_i32_168
  let c1_i32_175 : BitVec 32 := 1#32
  let v433 : BitVec 32 := Scalar.muli v425 c1_i32_175
  let v434 : BitVec 32 := Scalar.addi c0_i32_176 v433
  v434.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let v451 : Index := Scalar.indexCast v429
  let c0_192 : Index := 0#32
  ![v451.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c1_i32_198 : BitVec 32 := 1#32
  let c3_i32 : BitVec 32 := 3#32
  let v460 : BitVec 32 := Scalar.shrsi v2 c3_i32
  let c1_i32_196 : BitVec 32 := 1#32
  let v461 : BitVec 32 := Scalar.andi v460 c1_i32_196
  let v464 : BitVec 32 := Scalar.subi c1_i32_198 v461
  let c16_i32_199 : BitVec 32 := 16#32
  let v465 : BitVec 32 := Scalar.muli v464 c16_i32_199
  let v466 : BitVec 32 := Scalar.addi v429 v465
  let c0_i32_205 : BitVec 32 := 0#32
  ![v466.toNat, 0]
def k0_dev8 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_195 : BitVec 32 := 8#32
  let v459 : BitVec 32 := Scalar.xori v2 c8_i32_195
  let c1_i32_202 : BitVec 32 := 1#32
  let v467 : BitVec 32 := Scalar.muli v459 c1_i32_202
  let v468 : BitVec 32 := Scalar.addi c0_i32_203 v467
  v468.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let v485 : Index := Scalar.indexCast v463
  let c0_219 : Index := 0#32
  ![v485.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let c0_i32_229 : BitVec 32 := 0#32
  ![v463.toNat, 0]
def k0_dev9 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_222 : BitVec 32 := 8#32
  let v493 : BitVec 32 := Scalar.xori v2 c8_i32_222
  let c1_i32_226 : BitVec 32 := 1#32
  let v496 : BitVec 32 := Scalar.muli v493 c1_i32_226
  let v497 : BitVec 32 := Scalar.addi c0_i32_227 v496
  v497.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let c16_i32_243 : BitVec 32 := 16#32
  let v514 : BitVec 32 := Scalar.addi v463 c16_i32_243
  let c2_i32_244 : BitVec 32 := 2#32
  let c3_i32_223 : BitVec 32 := 3#32
  let v494 : BitVec 32 := Scalar.shrsi v2 c3_i32_223
  let c1_i32_224 : BitVec 32 := 1#32
  let v495 : BitVec 32 := Scalar.andi v494 c1_i32_224
  let v515 : BitVec 32 := Scalar.muli c2_i32_244 v495
  let c16_i32_245 : BitVec 32 := 16#32
  let v516 : BitVec 32 := Scalar.muli v515 c16_i32_245
  let v517 : BitVec 32 := Scalar.subi v514 v516
  let v519 : Index := Scalar.indexCast v517
  let c0_247 : Index := 0#32
  ![v519.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let c3_i32_223 : BitVec 32 := 3#32
  let v494 : BitVec 32 := Scalar.shrsi v2 c3_i32_223
  let c1_i32_224 : BitVec 32 := 1#32
  let v495 : BitVec 32 := Scalar.andi v494 c1_i32_224
  let c16_i32_248 : BitVec 32 := 16#32
  let v523 : BitVec 32 := Scalar.muli v495 c16_i32_248
  let v524 : BitVec 32 := Scalar.subi v463 v523
  let c0_i32_256 : BitVec 32 := 0#32
  ![v524.toNat, 0]
def k0_dev10 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_249 : BitVec 32 := 4#32
  let v525 : BitVec 32 := Scalar.xori v2 c4_i32_249
  let c1_i32_253 : BitVec 32 := 1#32
  let v528 : BitVec 32 := Scalar.muli v525 c1_i32_253
  let v529 : BitVec 32 := Scalar.addi c0_i32_254 v528
  v529.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let c3_i32_223 : BitVec 32 := 3#32
  let v494 : BitVec 32 := Scalar.shrsi v2 c3_i32_223
  let c1_i32_224 : BitVec 32 := 1#32
  let v495 : BitVec 32 := Scalar.andi v494 c1_i32_224
  let c16_i32_248 : BitVec 32 := 16#32
  let v523 : BitVec 32 := Scalar.muli v495 c16_i32_248
  let v524 : BitVec 32 := Scalar.subi v463 v523
  let c32_i32_270 : BitVec 32 := 32#32
  let v546 : BitVec 32 := Scalar.addi v524 c32_i32_270
  let c2_i32_271 : BitVec 32 := 2#32
  let c2_i32_250 : BitVec 32 := 2#32
  let v526 : BitVec 32 := Scalar.shrsi v2 c2_i32_250
  let c1_i32_251 : BitVec 32 := 1#32
  let v527 : BitVec 32 := Scalar.andi v526 c1_i32_251
  let v547 : BitVec 32 := Scalar.muli c2_i32_271 v527
  let c32_i32_272 : BitVec 32 := 32#32
  let v548 : BitVec 32 := Scalar.muli v547 c32_i32_272
  let v549 : BitVec 32 := Scalar.subi v546 v548
  let v551 : Index := Scalar.indexCast v549
  let c0_274 : Index := 0#32
  ![v551.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let c3_i32_223 : BitVec 32 := 3#32
  let v494 : BitVec 32 := Scalar.shrsi v2 c3_i32_223
  let c1_i32_224 : BitVec 32 := 1#32
  let v495 : BitVec 32 := Scalar.andi v494 c1_i32_224
  let c16_i32_248 : BitVec 32 := 16#32
  let v523 : BitVec 32 := Scalar.muli v495 c16_i32_248
  let v524 : BitVec 32 := Scalar.subi v463 v523
  let c2_i32_250 : BitVec 32 := 2#32
  let v526 : BitVec 32 := Scalar.shrsi v2 c2_i32_250
  let c1_i32_251 : BitVec 32 := 1#32
  let v527 : BitVec 32 := Scalar.andi v526 c1_i32_251
  let c32_i32_275 : BitVec 32 := 32#32
  let v555 : BitVec 32 := Scalar.muli v527 c32_i32_275
  let v556 : BitVec 32 := Scalar.subi v524 v555
  let c0_i32_283 : BitVec 32 := 0#32
  ![v556.toNat, 0]
def k0_dev11 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_276 : BitVec 32 := 2#32
  let v557 : BitVec 32 := Scalar.xori v2 c2_i32_276
  let c1_i32_280 : BitVec 32 := 1#32
  let v560 : BitVec 32 := Scalar.muli v557 c1_i32_280
  let v561 : BitVec 32 := Scalar.addi c0_i32_281 v560
  v561.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let c3_i32_223 : BitVec 32 := 3#32
  let v494 : BitVec 32 := Scalar.shrsi v2 c3_i32_223
  let c1_i32_224 : BitVec 32 := 1#32
  let v495 : BitVec 32 := Scalar.andi v494 c1_i32_224
  let c16_i32_248 : BitVec 32 := 16#32
  let v523 : BitVec 32 := Scalar.muli v495 c16_i32_248
  let v524 : BitVec 32 := Scalar.subi v463 v523
  let c2_i32_250 : BitVec 32 := 2#32
  let v526 : BitVec 32 := Scalar.shrsi v2 c2_i32_250
  let c1_i32_251 : BitVec 32 := 1#32
  let v527 : BitVec 32 := Scalar.andi v526 c1_i32_251
  let c32_i32_275 : BitVec 32 := 32#32
  let v555 : BitVec 32 := Scalar.muli v527 c32_i32_275
  let v556 : BitVec 32 := Scalar.subi v524 v555
  let c64_i32_297 : BitVec 32 := 64#32
  let v578 : BitVec 32 := Scalar.addi v556 c64_i32_297
  let c2_i32_298 : BitVec 32 := 2#32
  let c1_i32_277 : BitVec 32 := 1#32
  let v558 : BitVec 32 := Scalar.shrsi v2 c1_i32_277
  let c1_i32_278 : BitVec 32 := 1#32
  let v559 : BitVec 32 := Scalar.andi v558 c1_i32_278
  let v579 : BitVec 32 := Scalar.muli c2_i32_298 v559
  let c64_i32_299 : BitVec 32 := 64#32
  let v580 : BitVec 32 := Scalar.muli v579 c64_i32_299
  let v581 : BitVec 32 := Scalar.subi v578 v580
  let v583 : Index := Scalar.indexCast v581
  let c0_301 : Index := 0#32
  ![v583.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let c3_i32_223 : BitVec 32 := 3#32
  let v494 : BitVec 32 := Scalar.shrsi v2 c3_i32_223
  let c1_i32_224 : BitVec 32 := 1#32
  let v495 : BitVec 32 := Scalar.andi v494 c1_i32_224
  let c16_i32_248 : BitVec 32 := 16#32
  let v523 : BitVec 32 := Scalar.muli v495 c16_i32_248
  let v524 : BitVec 32 := Scalar.subi v463 v523
  let c2_i32_250 : BitVec 32 := 2#32
  let v526 : BitVec 32 := Scalar.shrsi v2 c2_i32_250
  let c1_i32_251 : BitVec 32 := 1#32
  let v527 : BitVec 32 := Scalar.andi v526 c1_i32_251
  let c32_i32_275 : BitVec 32 := 32#32
  let v555 : BitVec 32 := Scalar.muli v527 c32_i32_275
  let v556 : BitVec 32 := Scalar.subi v524 v555
  let c1_i32_277 : BitVec 32 := 1#32
  let v558 : BitVec 32 := Scalar.shrsi v2 c1_i32_277
  let c1_i32_278 : BitVec 32 := 1#32
  let v559 : BitVec 32 := Scalar.andi v558 c1_i32_278
  let c64_i32_302 : BitVec 32 := 64#32
  let v587 : BitVec 32 := Scalar.muli v559 c64_i32_302
  let v588 : BitVec 32 := Scalar.subi v556 v587
  let c0_i32_311 : BitVec 32 := 0#32
  ![v588.toNat, 0]
def k0_dev12 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_303 : BitVec 32 := 1#32
  let v589 : BitVec 32 := Scalar.xori v2 c1_i32_303
  let c1_i32_308 : BitVec 32 := 1#32
  let v592 : BitVec 32 := Scalar.muli v589 c1_i32_308
  let v593 : BitVec 32 := Scalar.addi c0_i32_309 v592
  v593.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v356 : BitVec 32 := Scalar.muli v2 c0_i32_110
  let c0_i32_112 : BitVec 32 := 0#32
  let v358 : BitVec 32 := Scalar.shrsi v2 c0_i32_112
  let c1_i32_113 : BitVec 32 := 1#32
  let v359 : BitVec 32 := Scalar.andi v358 c1_i32_113
  let c128_i32 : BitVec 32 := 128#32
  let v360 : BitVec 32 := Scalar.muli v359 c128_i32
  let v361 : BitVec 32 := Scalar.addi v356 v360
  let c1_i32_141 : BitVec 32 := 1#32
  let v392 : BitVec 32 := Scalar.shrsi v2 c1_i32_141
  let c1_i32_142 : BitVec 32 := 1#32
  let v393 : BitVec 32 := Scalar.andi v392 c1_i32_142
  let c64_i32 : BitVec 32 := 64#32
  let v394 : BitVec 32 := Scalar.muli v393 c64_i32
  let v395 : BitVec 32 := Scalar.addi v361 v394
  let c2_i32_169 : BitVec 32 := 2#32
  let v426 : BitVec 32 := Scalar.shrsi v2 c2_i32_169
  let c1_i32_170 : BitVec 32 := 1#32
  let v427 : BitVec 32 := Scalar.andi v426 c1_i32_170
  let c32_i32 : BitVec 32 := 32#32
  let v428 : BitVec 32 := Scalar.muli v427 c32_i32
  let v429 : BitVec 32 := Scalar.addi v395 v428
  let c3_i32 : BitVec 32 := 3#32
  let v460 : BitVec 32 := Scalar.shrsi v2 c3_i32
  let c1_i32_196 : BitVec 32 := 1#32
  let v461 : BitVec 32 := Scalar.andi v460 c1_i32_196
  let c16_i32_197 : BitVec 32 := 16#32
  let v462 : BitVec 32 := Scalar.muli v461 c16_i32_197
  let v463 : BitVec 32 := Scalar.addi v429 v462
  let c3_i32_223 : BitVec 32 := 3#32
  let v494 : BitVec 32 := Scalar.shrsi v2 c3_i32_223
  let c1_i32_224 : BitVec 32 := 1#32
  let v495 : BitVec 32 := Scalar.andi v494 c1_i32_224
  let c16_i32_248 : BitVec 32 := 16#32
  let v523 : BitVec 32 := Scalar.muli v495 c16_i32_248
  let v524 : BitVec 32 := Scalar.subi v463 v523
  let c2_i32_250 : BitVec 32 := 2#32
  let v526 : BitVec 32 := Scalar.shrsi v2 c2_i32_250
  let c1_i32_251 : BitVec 32 := 1#32
  let v527 : BitVec 32 := Scalar.andi v526 c1_i32_251
  let c32_i32_275 : BitVec 32 := 32#32
  let v555 : BitVec 32 := Scalar.muli v527 c32_i32_275
  let v556 : BitVec 32 := Scalar.subi v524 v555
  let c1_i32_277 : BitVec 32 := 1#32
  let v558 : BitVec 32 := Scalar.shrsi v2 c1_i32_277
  let c1_i32_278 : BitVec 32 := 1#32
  let v559 : BitVec 32 := Scalar.andi v558 c1_i32_278
  let c64_i32_302 : BitVec 32 := 64#32
  let v587 : BitVec 32 := Scalar.muli v559 c64_i32_302
  let v588 : BitVec 32 := Scalar.subi v556 v587
  let c128_i32_325 : BitVec 32 := 128#32
  let v610 : BitVec 32 := Scalar.addi v588 c128_i32_325
  let c2_i32_326 : BitVec 32 := 2#32
  let c0_i32_304 : BitVec 32 := 0#32
  let v590 : BitVec 32 := Scalar.shrsi v2 c0_i32_304
  let c1_i32_305 : BitVec 32 := 1#32
  let v591 : BitVec 32 := Scalar.andi v590 c1_i32_305
  let v611 : BitVec 32 := Scalar.muli c2_i32_326 v591
  let c128_i32_327 : BitVec 32 := 128#32
  let v612 : BitVec 32 := Scalar.muli v611 c128_i32_327
  let v613 : BitVec 32 := Scalar.subi v610 v612
  let v615 : Index := Scalar.indexCast v613
  let c0_329 : Index := 0#32
  ![v615.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S8192x512 : Shape := ⟨2, ![8192, 512]⟩
abbrev S2x128x128x64 : Shape := ⟨4, ![2, 128, 128, 64]⟩
abbrev S2x128x8192 : Shape := ⟨3, ![2, 128, 8192]⟩
abbrev S_ : Shape := ⟨0, ![]⟩
abbrev S2x128x128x1 : Shape := ⟨4, ![2, 128, 128, 1]⟩
abbrev S2x128x128x128 : Shape := ⟨4, ![2, 128, 128, 128]⟩
abbrev S2x128x128 : Shape := ⟨3, ![2, 128, 128]⟩
abbrev S2x128x64x128 : Shape := ⟨4, ![2, 128, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S8192x512, .f32⟩
  | .hbm, ⟨3, _⟩ => ⟨S2x128x128x64, .f32⟩
  | .hbm, ⟨4, _⟩ => ⟨S2x128x128x64, .f32⟩
  | .hbm, ⟨5, _⟩ => ⟨S2x128x8192, .f32⟩
  | .hbm, ⟨6, _⟩ => ⟨S2x128x128x64, .f32⟩
  | .hbm, ⟨7, _⟩ => ⟨S_, .f32⟩
  | .hbm, ⟨8, _⟩ => ⟨S2x128x128x64, .f32⟩
  | .hbm, ⟨9, _⟩ => ⟨S_, .f32⟩
  | .hbm, ⟨10, _⟩ => ⟨S2x128x128x1, .f32⟩
  | .hbm, ⟨11, _⟩ => ⟨S_, .f32⟩
  | .hbm, ⟨12, _⟩ => ⟨S2x128x128x1, .f32⟩
  | .hbm, ⟨13, _⟩ => ⟨S2x128x128x128, .f32⟩
  | .hbm, ⟨14, _⟩ => ⟨S_, .f32⟩
  | .hbm, ⟨15, _⟩ => ⟨S2x128x128x128, .f32⟩
  | .hbm, ⟨16, _⟩ => ⟨S2x128x128x128, .f32⟩
  | .hbm, ⟨17, _⟩ => ⟨S_, .f32⟩
  | .hbm, ⟨18, _⟩ => ⟨S2x128x128, .f32⟩
  | .hbm, ⟨19, _⟩ => ⟨S2x128x128x1, .f32⟩
  | .hbm, ⟨20, _⟩ => ⟨S2x128x128x1, .f32⟩
  | .hbm, ⟨21, _⟩ => ⟨S2x128x128x1, .f32⟩
  | .hbm, ⟨22, _⟩ => ⟨S2x128x128x1, .f32⟩
  | .hbm, ⟨23, _⟩ => ⟨S2x128x128x128, .f32⟩
  | .hbm, ⟨24, _⟩ => ⟨S2x128x128x128, .f32⟩
  | .hbm, ⟨25, _⟩ => ⟨S2x128x128x128, .f32⟩
  | .hbm, ⟨26, _⟩ => ⟨S2x128x128x1, .f32⟩
  | .hbm, ⟨27, _⟩ => ⟨S_, .f32⟩
  | .hbm, ⟨28, _⟩ => ⟨S2x128x128, .f32⟩
  | .hbm, ⟨29, _⟩ => ⟨S2x128x128x1, .f32⟩
  | .hbm, ⟨30, _⟩ => ⟨S2x128x128x1, .f32⟩
  | .hbm, ⟨31, _⟩ => ⟨S2x128x128x1, .f32⟩
  | .hbm, ⟨32, _⟩ => ⟨S2x128x128x64, .f32⟩
  | .hbm, ⟨33, _⟩ => ⟨S2x128x128x64, .f32⟩
  | .hbm, ⟨34, _⟩ => ⟨S2x128x64x128, .f32⟩
  | .hbm, ⟨35, _⟩ => ⟨S2x128x128x64, .f32⟩
  | .hbm, ⟨36, _⟩ => ⟨S2x128x128x64, .f32⟩
  | .hbm, ⟨37, _⟩ => ⟨S2x128x128x1, .f32⟩
  | .hbm, ⟨38, _⟩ => ⟨S2x128x128x64, .f32⟩
  | .hbm, ⟨39, _⟩ => ⟨S2x128x128x64, .f32⟩
  | .hbm, ⟨40, _⟩ => ⟨S2x128x8192, .f32⟩
  | .hbm, ⟨41, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.KernelIdeal.Cells.lean ====
/-
The exchange of v02: eight rounds of recursive halving and doubling between sixteen devices. Round `k` (the index of
its pair of semaphores) sends some rows of the working buffer to the device that differs in bit `k % 4`, into slot `k`
of that device's landing buffer. This module fixes the geometry of the rounds, what the working buffer holds
before each of them, and the schedule of what each semaphore's units stand for.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who exchanges with whom, and which rows -/

/-- The device whose number differs from `c`'s in bit `r`. -/
def peer (r : Fin 4) (c : Dev nD) : Dev nD := ⟨(c.val ^^^ 2 ^ r.val) % 16, Nat.mod_lt _ (by decide)⟩

theorem peer_peer (r : Fin 4) (c : Dev nD) : peer r (peer r c) = c := by revert r c; decide

/-- The pairing in bit `r`, as a permutation of the devices. -/
def peerE (r : Fin 4) : Dev nD ≃ Dev nD := ⟨peer r, peer r, peer_peer r, peer_peer r⟩

/-- The bit in which round `k`'s two devices differ. -/
def bit (k : Fin 8) : Fin 4 := ![0, 1, 2, 3, 0, 1, 2, 3] k
/-- Rows moved in round `k`. -/
def len (k : Fin 8) : ℕ := ![128, 64, 32, 16, 128, 64, 32, 16] k
/-- First row of landing slot `k`. -/
def slotOff (k : Fin 8) : ℕ := ![0, 128, 192, 224, 352, 288, 256, 240] k
/-- Position of round `k` in time. -/
def tOf (k : Fin 8) : ℕ := ![0, 1, 2, 3, 7, 6, 5, 4] k

/-- First row of the part a device keeps after the halving step in bit `r`. -/
def keep (r : Fin 4) (c : Dev nD) : ℕ :=
  ![c.val % 2 * 128, c.val % 2 * 128 + c.val / 2 % 2 * 64, c.val % 2 * 128 + c.val / 2 % 2 * 64 + c.val / 4 % 2 * 32,
    c.val % 2 * 128 + c.val / 2 % 2 * 64 + c.val / 4 % 2 * 32 + c.val / 8 * 16] r
/-- First row device `c` sends in round `k`: halving sends the part it gives up, doubling the part it has finished. -/
def src (k : Fin 8) (c : Dev nD) : ℕ := if k.val < 4 then keep (bit k) (peer (bit k) c) else keep (bit k) c

theorem src_le (k : Fin 8) (c : Dev nD) : src k c + len k ≤ 256 := by revert k c; decide
theorem slot_le (k : Fin 8) : slotOff k + len k ≤ 480 := by revert k; decide

/-- The shape of round `k`'s piece. -/
abbrev Sk (k : Fin 8) : Shape := ⟨2, ![len k, 512]⟩

theorem work_inb {k : Fin 8} {o : ℕ} (h : o + len k ≤ 256) : ∀ a, (![o, 0] : Fin 2 → ℕ) a + (Sk k).size a ≤ S256x512.size a :=
  fun | 0 => h | 1 => Nat.le_refl 512
theorem recv_inb (k : Fin 8) : ∀ a, (![slotOff k, 0] : Fin 2 → ℕ) a + (Sk k).size a ≤ S512x512.size a :=
  fun | 0 => Nat.le_trans (slot_le k) (by decide) | 1 => Nat.le_refl 512
theorem sem_inb (k : Fin 8) : ∀ a, (![k.val] : Fin 1 → ℕ) a + S1.size a ≤ S8.size a :=
  fun | 0 => k.isLt

/-! ## The buffers and the semaphores -/

abbrev workM : Memref sig .tc .vmem S256x512 .f32 := Memref.whole cc0_scratch0
abbrev recvM : Memref sig .tc .vmem S512x512 .f32 := Memref.whole cc0_scratch1

/-- The rows sent in round `k` and, on the other device, the rows the message stands for. -/
abbrev srcR (k : Fin 8) (c : Dev nD) : Rect S256x512 := Rect.unit (s := S256x512) ![src k c, 0] (Sk k).size (work_inb (src_le k c))
abbrev slotR (k : Fin 8) : Rect S512x512 := Rect.unit (s := S512x512) ![slotOff k, 0] (Sk k).size (recv_inb k)
abbrev srcV (k : Fin 8) (c : Dev nD) : Memref sig .tc .vmem (Sk k) .f32 := workM.slice (srcR k c) (fun _ => rfl)
abbrev slotV (k : Fin 8) : Memref sig .tc .vmem (Sk k) .f32 := recvM.slice (slotR k) (fun _ => rfl)

abbrev barS : Sem sig := (SemArray.scalar (sig.barrier 0 rfl) : Sems sig S_).sem
abbrev sendS (k : Fin 8) : DmaSem sig := ((cc0_scratch2.slice (Rect.unit (s := S8) ![k.val] S1.size (sem_inb k))).squeeze S_ squeezes_S1_S_).sem
abbrev recvS (k : Fin 8) : DmaSem sig := ((cc0_scratch3.slice (Rect.unit (s := S8) ![k.val] S1.size (sem_inb k))).squeeze S_ squeezes_S1_S_).sem

abbrev barCell (c : Dev nD) : GSem nD τ sig := ((c : Thread nD τ), .reg barS)
abbrev sendCell (k : Fin 8) (c : Dev nD) : GSem nD τ sig := ((c : Thread nD τ), .dma (sendS k))
abbrev recvCell (k : Fin 8) (c : Dev nD) : GSem nD τ sig := ((c : Thread nD τ), .dma (recvS k))

theorem sendS_inj : ∀ k k' : Fin 8, sendS k = sendS k' → k = k' := by decide
theorem recvS_inj : ∀ k k' : Fin 8, recvS k = recvS k' → k = k' := by decide
theorem sendS_ne_recvS : ∀ k k' : Fin 8, sendS k ≠ recvS k' := by decide

/-- Units a copy of round `k` credits. -/
abbrev N (k : Fin 8) : ℕ := (slotV k).view.dmaCredit
theorem N_pos (k : Fin 8) : 0 < N k := View.dmaCredit_pos _ (by revert k; decide)
theorem N_src (k : Fin 8) (c : Dev nD) : (srcV k c).view.dmaCredit = N k := rfl

/-! ## What the working buffer holds before each round -/

/-- How a received piece meets the rows it stands for: halving adds it, doubling takes it. -/
def combine (k : Fin 8) (a b : FVec F (Sk k) .f32) : FVec F (Sk k) .f32 := if k.val < 4 then addf a b else b

/-- The rounds in the order of time. -/
def kAt (t : ℕ) : Fin 8 := match t with | 0 => 0 | 1 => 1 | 2 => 2 | 3 => 3 | 4 => 7 | 5 => 6 | 6 => 5 | _ => 4

/-- The working buffers before the `t`-th round, from what the devices put in at the start. -/
def W (P : Dev nD → FVec F S256x512 .f32) : ℕ → Dev nD → FVec F S256x512 .f32
  | 0, c => P c
  | t + 1, c => (workM.access (srcR (kAt t) (peer (bit (kAt t)) c))).write (Elt F) (W P t c)
      (combine (kAt t) ((workM.access (srcR (kAt t) (peer (bit (kAt t)) c))).read (Elt F) (W P t c))
        ((workM.access (srcR (kAt t) (peer (bit (kAt t)) c))).read (Elt F) (W P t (peer (bit (kAt t)) c)))) Finset.univ

/-! ## What the semaphores' units hand over -/

variable (P : Dev nD → FVec F S256x512 .f32)

/-- The whole working buffer of device `c`. -/
def workPts (c : Dev nD) (f : FVec F S256x512 .f32) : sProp 𝕄 := ((c : Thread nD τ).loc cc0_scratch0) ↦{fullShare} f
/-- Landing slot `k` of device `c`, whatever it holds. -/
def slotAny (k : Fin 8) (c : Dev nD) : sProp 𝕄 :=
  iprop(∃ f, (slotV k).view.loc (c : Thread nD τ) ↦[(slotV k).view.set]{fullShare} f)
/-- The rows lent to the copy of round `k` come back holding what they held. -/
def sendPay (k : Fin 8) (c : Dev nD) : sProp 𝕄 :=
  (srcV k c).view.loc (c : Thread nD τ) ↦[(srcV k c).view.set]{fullShare} (W P (tOf k) c : FVec F S256x512 .f32)
/-- Landing slot `k` holds the rows the peer sent. -/
def recvPay (k : Fin 8) (c : Dev nD) : sProp 𝕄 :=
  iprop(∃ fd, (slotV k).view.loc (c : Thread nD τ) ↦[(slotV k).view.set]{fullShare}
    ((slotV k).view.write (Elt F) fd ((srcV k (peer (bit k) c)).view.read (Elt F) (W P (tOf k) (peer (bit k) c))) Finset.univ))
/-- Entering, the peer in bit `r` lends its two landing slots for that bit. -/
def barPay (r : Fin 4) (c : Dev nD) : sProp 𝕄 :=
  iprop(slotAny (F := F) ⟨r.val, by omega⟩ (peer r c) ∗ slotAny (F := F) ⟨r.val + 4, by omega⟩ (peer r c))

omit [FloatOps F] in
instance slotAny_storable (k : Fin 8) (c : Dev nD) : BI.Storable (upEmb : UEmb _ 𝕄) (slotAny (F := F) k c) := by
  unfold slotAny; infer_instance
instance sendPay_storable (k : Fin 8) (c : Dev nD) : BI.Storable (upEmb : UEmb _ 𝕄) (sendPay P k c) := by
  unfold sendPay; infer_instance
instance recvPay_storable (k : Fin 8) (c : Dev nD) : BI.Storable (upEmb : UEmb _ 𝕄) (recvPay P k c) := by
  unfold recvPay; infer_instance
omit [FloatOps F] in
instance barPay_storable (r : Fin 4) (c : Dev nD) : BI.Storable (upEmb : UEmb _ 𝕄) (barPay (F := F) r c) := by
  unfold barPay; infer_instance

theorem recvPay_any (k : Fin 8) (c : Dev nD) : recvPay P k c ⊢ slotAny (F := F) k c := by
  unfold recvPay slotAny; iintro ⟨%fd, H⟩; iexists _; iexact H

/-! ## The schedule: one round per cell -/

/-- Which of the seventeen cells of a core a semaphore is. -/
def isSend (k : Fin 8) (g : GSem nD τ sig) : Prop := g.2 = .dma (sendS k)
def isRecv (k : Fin 8) (g : GSem nD τ sig) : Prop := g.2 = .dma (recvS k)
instance (k : Fin 8) (g : GSem nD τ sig) : Decidable (isSend k g) := inferInstanceAs (Decidable (_ = _))
instance (k : Fin 8) (g : GSem nD τ sig) : Decidable (isRecv k g) := inferInstanceAs (Decidable (_ = _))

/-- The round a copy's semaphore belongs to. -/
def roundOf (g : GSem nD τ sig) : Fin 8 :=
  match g.2 with
  | .dma q => ⟨(q.val + 2) % 8, Nat.mod_lt _ (by decide)⟩
  | _ => 0

theorem roundOf_send (k : Fin 8) (c : Dev nD) : roundOf (sendCell k c) = k := by revert k c; decide +kernel
theorem roundOf_recv (k : Fin 8) (c : Dev nD) : roundOf (recvCell k c) = k := by revert k c; decide +kernel

def Rd : Rounds.Schedule (GSem nD τ sig) (Fin 4) 𝕄 where
  duties g r :=
    if r = 0 ∧ g.1.2 = .tc then
      (if g.2 = .reg barS then Finset.univ else if isSend (roundOf g) g ∨ isRecv (roundOf g) g then {0} else ∅)
    else ∅
  unitless _ := False
  amount g _ _ := if g.2 = .reg barS then 1 else N (roundOf g)
  payload g _ d :=
    if g.2 = .reg barS then barPay d g.1.1
    else if isRecv (roundOf g) g then recvPay P (roundOf g) g.1.1
    else sendPay P (roundOf g) g.1.1
  amount_pos g _ _ _ := by
    by_cases h : g.2 = .reg barS
    · rw [if_pos h]; exact Nat.one_pos
    · rw [if_neg h]; exact N_pos _

instance Rd_payload_storable (g : GSem nD τ sig) (r : ℕ) (d : Fin 4) :
    BI.Storable (upEmb : UEmb _ 𝕄) ((Rd P).payload g r d) := by
  dsimp only [Rd]
  (repeat' split) <;> infer_instance

section Sched
variable (k : Fin 8) (c : Dev nD)

theorem send_ne_bar : (SemLoc.dma (sendS k) : SemLoc sig) ≠ .reg barS := fun h => by cases h
theorem recv_ne_bar : (SemLoc.dma (recvS k) : SemLoc sig) ≠ .reg barS := fun h => by cases h
theorem not_isRecv_send (k' : Fin 8) : ¬ isRecv k' (sendCell k c) := fun h => sendS_ne_recvS k k' (SemLoc.dma.inj h)

theorem duties_bar : (Rd P).duties (barCell c) 0 = Finset.univ := by
  dsimp only [Rd]; rw [if_pos ⟨rfl, rfl⟩, if_pos rfl]
theorem duties_send : (Rd P).duties (sendCell k c) 0 = {0} := by
  dsimp only [Rd]
  rw [if_pos ⟨rfl, rfl⟩, if_neg (send_ne_bar k), if_pos (Or.inl (by rw [roundOf_send]; rfl))]
theorem duties_recv : (Rd P).duties (recvCell k c) 0 = {0} := by
  dsimp only [Rd]
  rw [if_pos ⟨rfl, rfl⟩, if_neg (recv_ne_bar k), if_pos (Or.inr (by rw [roundOf_recv]; rfl))]
theorem duties_later (g : GSem nD τ sig) : ∀ r, 1 ≤ r → (Rd P).duties g r = ∅ :=
  fun r hr => by dsimp only [Rd]; exact if_neg fun h => by omega

theorem amount_bar (d : Fin 4) : (Rd P).amount (barCell c) 0 d = 1 := by dsimp only [Rd]; exact if_pos rfl
theorem amount_send (d : Fin 4) : (Rd P).amount (sendCell k c) 0 d = N k := by
  dsimp only [Rd]; rw [if_neg (send_ne_bar k), roundOf_send]
theorem amount_recv (d : Fin 4) : (Rd P).amount (recvCell k c) 0 d = N k := by
  dsimp only [Rd]; rw [if_neg (recv_ne_bar k), roundOf_recv]

theorem expect_bar : (Rd P).expect (barCell c) 0 = 4 := by
  unfold Schedule.expect Schedule.amountOf
  rw [duties_bar, Finset.sum_congr rfl fun d _ => amount_bar P c d]; rfl
theorem expect_send : (Rd P).expect (sendCell k c) 0 = N k := by
  unfold Schedule.expect Schedule.amountOf; rw [duties_send, Finset.sum_singleton, amount_send]
theorem expect_recv : (Rd P).expect (recvCell k c) 0 = N k := by
  unfold Schedule.expect Schedule.amountOf; rw [duties_recv, Finset.sum_singleton, amount_recv]

theorem payload_bar (d : Fin 4) : (Rd P).payload (barCell c) 0 d = barPay d c := by dsimp only [Rd]; rw [if_pos rfl]
theorem payload_send (d : Fin 4) : (Rd P).payload (sendCell k c) 0 d = sendPay P k c := by
  dsimp only [Rd]; rw [if_neg (send_ne_bar k), if_neg (not_isRecv_send k c _), roundOf_send]
theorem payload_recv (d : Fin 4) : (Rd P).payload (recvCell k c) 0 d = recvPay P k c := by
  dsimp only [Rd]; rw [if_neg (recv_ne_bar k), roundOf_recv, if_pos (show isRecv k (recvCell k c) from rfl)]

theorem rest_bar : bigSep ((Rd P).duties (barCell c) 0 \ ∅) (fun d => (Rd P).payload (barCell c) 0 d)
    = bigSep Finset.univ fun r => barPay (F := F) r c := by
  rw [Finset.sdiff_empty, duties_bar]; exact bigSep_congr fun r _ => payload_bar P c r
theorem rest_send : bigSep ((Rd P).duties (sendCell k c) 0 \ ∅) (fun d => (Rd P).payload (sendCell k c) 0 d) = sendPay P k c := by
  rw [Finset.sdiff_empty, duties_send, bigSep_singleton, payload_send]
theorem rest_recv : bigSep ((Rd P).duties (recvCell k c) 0 \ ∅) (fun d => (Rd P).payload (recvCell k c) 0 d) = recvPay P k c := by
  rw [Finset.sdiff_empty, duties_recv, bigSep_singleton, payload_recv]

end Sched

/-! ## What each device owes at the start, and the order of the cells -/

/-- A list of summands, each peeled off at the end of the sum. -/
def pile {α : Type} (f : α → CellTallies nD τ sig Unit) (base : CellTallies nD τ sig Unit) : List α → CellTallies nD τ sig Unit
  | [] => base
  | a :: l => pile f base l + f a

theorem pile_apply {α : Type} (f : α → CellTallies nD τ sig Unit) (base : CellTallies nD τ sig Unit) (l : List α)
    (g : GSem nD τ sig) (u : Unit) : pile f base l g u = base g u + (l.map fun a => f a g u).sum := by
  induction l with
  | nil => simp [pile]
  | cons a l ih =>
    show (pile f base l + f a) g u = _
    rw [Pi.add_apply, Finsupp.add_apply, ih, List.map_cons, List.sum_cons]; omega

/-- The credit of round `k`'s landing cell on `c`'s peer; the unit on the barrier cell of `c`'s peer in bit `r`. -/
abbrev owedK (c : Dev nD) (k : Fin 8) : CellTallies nD τ sig Unit := tallyAt (recvCell k (peer (bit k) c)) () (N k)
abbrev owedB (c : Dev nD) (r : Fin 4) : CellTallies nD τ sig Unit := tallyAt (barCell (peer r c)) () 1

/-- What is still owed with the rounds of `l` to come; and at the start. -/
abbrev owedFrom (c : Dev nD) (l : List (Fin 8)) : CellTallies nD τ sig Unit := pile (owedK c) 0 l
abbrev owedAll (c : Dev nD) : CellTallies nD τ sig Unit := owedFrom c [0, 1, 2, 3, 7, 6, 5, 4]
def O₀ (c : Dev nD) : CellTallies nD τ sig Unit := pile (owedB c) (owedAll c) [0, 1, 2, 3]

theorem owedFrom_pos {c : Dev nD} {l : List (Fin 8)} {g : GSem nD τ sig} {u : Unit} (h : 0 < owedFrom c l g u) :
    ∃ k ∈ l, g = recvCell k (peer (bit k) c) := by
  rw [pile_apply] at h
  by_contra hn
  rw [show (l.map fun k => owedK c k g u) = l.map fun _ => 0 from List.map_congr_left fun k hk => by
    rw [tallyAt_apply, if_neg fun h' => hn ⟨k, hk, h'.1⟩]] at h
  simp at h

theorem O₀_pos {c : Dev nD} {g : GSem nD τ sig} {u : Unit} (h : 0 < O₀ c g u) :
    (∃ k, g = recvCell k (peer (bit k) c)) ∨ ∃ r, g = barCell (peer r c) := by
  by_contra hn
  rw [not_or] at hn
  unfold O₀ at h
  rw [pile_apply] at h
  rw [show (([0, 1, 2, 3] : List (Fin 4)).map fun r => owedB c r g u) = ([0, 1, 2, 3] : List (Fin 4)).map fun _ => 0 from List.map_congr_left fun r _ => by
    rw [tallyAt_apply, if_neg fun h' => hn.2 ⟨r, h'.1⟩]] at h
  obtain ⟨k, -, hk⟩ := owedFrom_pos (c := c) (l := [0, 1, 2, 3, 7, 6, 5, 4]) (g := g) (u := u) (by simpa using h)
  exact hn.1 ⟨k, hk⟩

def L (g : GSem nD τ sig) : Finset Unit := if g.1.2 = .tc then {()} else ∅
/-- Barrier cells at 1, landing cells above in the order of their rounds, everything else at 0. -/
def lv (g : GSem nD τ sig) (_ : Unit) : ℕ :=
  if g.2 = .reg barS then 1 else if isRecv (roundOf g) g then 2 + tOf (roundOf g) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (k : Fin 8) (c : Dev nD) (u : Unit) : lv (recvCell k c) u = 2 + tOf k := by
  unfold lv; rw [if_neg (recv_ne_bar k), roundOf_recv, if_pos (show isRecv k (recvCell k c) from rfl)]

omit [FloatOps F] in
/-- A device may wait below everything it owes. -/
theorem mayWait_below (c : Dev nD) (sm : SemLoc sig) (O : CellTallies nD τ sig Unit) (n : ℕ)
    (hsm : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

omit [FloatOps F] in
theorem mayWait_zero (c : Dev nD) (sm : SemLoc sig) :
    (levAts L lv : sProp 𝕄) ⊢ MayWait (c : Thread nD τ) sm () 0 := by
  rw [MayWait_zero]; iintro -; iempintro

omit [FloatOps F] in
theorem mayWait_from (c : Dev nD) (sm : SemLoc sig) (l : List (Fin 8))
    (h : ∀ k ∈ l, lv ((c : Thread nD τ), sm) () < 2 + tOf k) :
    (levAts L lv : sProp 𝕄) ⊢ MayWait (c : Thread nD τ) sm () (owedFrom c l) :=
  mayWait_below c sm _ _ (Nat.le_refl _) fun g u hg => by
    obtain ⟨k, hk, rfl⟩ := owedFrom_pos hg
    exact ⟨rfl, by rw [lv_recv]; exact h k hk⟩

omit [FloatOps F] in
theorem mayWait_stage (c : Dev nD) (q : DmaSem sig) (hq : ∀ k, q ≠ recvS k) :
    (levAts L lv : sProp 𝕄) ⊢ MayWait (c : Thread nD τ) (.dma q) () (O₀ c) :=
  mayWait_below c _ _ 0 (by
      have hn : ¬ isRecv (roundOf ((c : Thread nD τ), SemLoc.dma q)) ((c : Thread nD τ), SemLoc.dma q) :=
        fun h => hq _ (SemLoc.dma.inj h)
      unfold lv
      rw [if_neg (fun h => by cases h), if_neg hn])
    fun g u hg => by
      rcases O₀_pos hg with ⟨k, rfl⟩ | ⟨r, rfl⟩
      · exact ⟨rfl, by rw [lv_recv]; omega⟩
      · exact ⟨rfl, by rw [lv_bar]; decide⟩

end Cert.KernelIdeal.Exchange
-- ==== Proof.KernelIdeal.Round.lean ====
/-
One round of the exchange, for every round at once: the copy to the peer with its two waits, and the update of the
rows the message stands for.
-/
module

public import proofs.«01_k».proof.Proof.KernelIdeal.Cells

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → FVec F S256x512 .f32)

abbrev 𝒱₀ : Variants := Variants.none

/-- The seventeen cells of a device: its barrier cell; its sending and landing cell of each round. -/
abbrev Cel : Type := Unit ⊕ (Bool × Fin 8)
abbrev osem : Bool × Fin 8 → SemLoc sig := fun bk => if bk.1 then .dma (recvS bk.2) else .dma (sendS bk.2)
abbrev csem : Cel → SemLoc sig := fun | .inl _ => .reg barS | .inr bk => osem bk
abbrev kcell (ck : Dev nD × Cel) : GSem nD τ sig := ((ck.1 : Thread nD τ), csem ck.2)

/-- What never changes: every cell's invariant, that every cell is at its round, and the cells' order. -/
def env (K : Dev nD × Cel → ℕ) : sProp 𝕄 :=
  iprop((bigSep Finset.univ fun ck => iprop(cellInv ER (Rd P) (K ck) (kcell ck) ∗ reached ER (kcell ck) 0)) ∗ levAts L lv)

instance env_persistent (K : Dev nD × Cel → ℕ) : BI.Persistent (env P K) := by unfold env; infer_instance

theorem env_at (K : Dev nD × Cel → ℕ) (ck : Dev nD × Cel) :
    env P K ⊢ iprop(cellInv ER (Rd P) (K ck) (kcell ck) ∗ reached ER (kcell ck) 0) := by
  unfold env
  exact sep_elim_left.trans (bigSep_elim (Φ := fun ck => iprop(cellInv ER (Rd P) (K ck) (kcell ck) ∗ reached ER (kcell ck) 0)) (Finset.mem_univ ck))
theorem env_bar (K : Dev nD × Cel → ℕ) (c : Dev nD) :
    env P K ⊢ iprop(cellInv ER (Rd P) (K (c, .inl ())) (barCell c) ∗ reached ER (barCell c) 0) := env_at P K (c, .inl ())
theorem env_send (K : Dev nD × Cel → ℕ) (k : Fin 8) (c : Dev nD) :
    env P K ⊢ iprop(cellInv ER (Rd P) (K (c, .inr (false, k))) (sendCell k c) ∗ reached ER (sendCell k c) 0) := env_at P K (c, .inr (false, k))
theorem env_recv (K : Dev nD × Cel → ℕ) (k : Fin 8) (c : Dev nD) :
    env P K ⊢ iprop(cellInv ER (Rd P) (K (c, .inr (true, k))) (recvCell k c) ∗ reached ER (recvCell k c) 0) := env_at P K (c, .inr (true, k))
theorem env_lev (K : Dev nD × Cel → ℕ) : env P K ⊢ (levAts L lv : sProp 𝕄) := by
  unfold env; iintro ⟨-, H⟩; iexact H

/-- A debt, whatever has been waited for. -/
def debt (c : Dev nD) (O : CellTallies nD τ sig Unit) : sProp 𝕄 := iprop(∃ Ws, owes (c : Thread nD τ) O Ws)

/-- What round `k` uses up of device `c`'s: its places at its two cells, the two rights to credit, the promise of the
    peer's credit. -/
def ticket (k : Fin 8) (c : Dev nD) : sProp 𝕄 :=
  iprop(atPos ER (sendCell k c) 0 ∅ 0 ∗ atPos ER (recvCell k c) 0 ∅ 0
    ∗ dutyTok ER (sendCell k c) 0 0 ∗ dutyTok ER (recvCell k (peer (bit k) c)) 0 0 ∗ cred (tallyAt (recvCell k c) () (N k)))

/-- Both cells of round `k` closed. -/
def closed (k : Fin 8) (c : Dev nD) : sProp 𝕄 := iprop(semVal (sendCell k c) 0 ∗ semVal (recvCell k c) 0)

theorem kAt_tOf (k : Fin 8) : kAt (tOf k) = k := by revert k; decide

/-- The rows round `k`'s message stands for on device `c`. -/
abbrev dstR (k : Fin 8) (c : Dev nD) : Rect S256x512 := srcR k (peer (bit k) c)

theorem W_succ (t : ℕ) (k : Fin 8) (h : kAt t = k) (c : Dev nD) :
    W P (t + 1) c = (workM.access (dstR k c)).write (Elt F) (W P t c)
      (combine k ((workM.access (dstR k c)).read (Elt F) (W P t c)) ((workM.access (dstR k c)).read (Elt F) (W P t (peer (bit k) c)))) Finset.univ := by
  subst h; rfl

variable (K : Dev nD × Cel → ℕ)

theorem wp_exchange (k : Fin 8) (c n : Dev nD) (hn : n = peer (bit k) c) (l : List (Fin 8))
    (hl : ∀ k' ∈ l, tOf k < tOf k')
    (o : Fin 2 → ℕ) (ho : o = ![src k c, 0]) (inb : ∀ a, o a + (Sk k).size a ≤ S256x512.size a)
    (inb' : ∀ a, (![slotOff k, 0] : Fin 2 → ℕ) a + (Sk k).size a ≤ S512x512.size a)
    {hsc : (recvM.slice (Rect.unit (s := S512x512) ![slotOff k, 0] (Sk k).size inb') (fun _ => rfl) :
      Memref sig (Dev.tc n : Thread nD τ).2.kind .vmem (Sk k) .f32).view.ref.isScScratch = false}
    {hsrc hsrc1 hsrc2 : (workM.slice (Rect.unit (s := S256x512) o (Sk k).size inb) (fun _ => rfl)).view.WordExact}
    {hdst hdst1 hdst2 : (recvM.slice (Rect.unit (s := S512x512) ![slotOff k, 0] (Sk k).size inb') (fun _ => rfl)).view.WordExact}
    {hsem : DmaTarget.Typed .vmem (.dma (recvS k)) (.remote (Dev.tc n : Thread nD τ)
      (recvM.slice (Rect.unit (s := S512x512) ![slotOff k, 0] (Sk k).size inb') (fun _ => rfl)) (.dma (sendS k)) hsc)}
    {α : Type} {Q : α → sProp 𝕄} {next : PUnit → Prog (TpuEff nD τ sig (Elt F) Λ₀ .tc) α} :
    iprop(env P K ∗ ticket (F := F) k c ∗ slotAny (F := F) k (peer (bit k) c) ∗ workPts c (W P (tOf k) c) ∗ debt (F := F) c (owedFrom c (k :: l)))
      ⊢ iprop(((closed (F := F) k c ∗ recvPay P k c ∗ workPts c (W P (tOf k) c) ∗ debt (F := F) c (owedFrom c l))
            -∗ wp frame (wpE (defs₀ (F := F)) 𝒱₀ (c : Thread nD τ) none) Set.univ (next ⟨⟩) Q)
          -∗ wp frame (wpE (defs₀ (F := F)) 𝒱₀ (c : Thread nD τ) none) Set.univ
              ((.op (.enqueueDma (workM.slice (Rect.unit (s := S256x512) o (Sk k).size inb) (fun _ => rfl))
                  (.remote (Dev.tc n : Thread nD τ) (recvM.slice (Rect.unit (s := S512x512) ![slotOff k, 0] (Sk k).size inb') (fun _ => rfl))
                    (.dma (sendS k)) hsc) (.dma (recvS k)) hsrc hdst hsem) fun _ =>
               .op (.waitDma2 (sendS k) (recvM.slice (Rect.unit (s := S512x512) ![slotOff k, 0] (Sk k).size inb') (fun _ => rfl))
                  (workM.slice (Rect.unit (s := S256x512) o (Sk k).size inb) (fun _ => rfl)) hdst1 hsrc1) fun _ =>
               .op (.waitDma2 (recvS k) (workM.slice (Rect.unit (s := S256x512) o (Sk k).size inb) (fun _ => rfl))
                  (recvM.slice (Rect.unit (s := S512x512) ![slotOff k, 0] (Sk k).size inb') (fun _ => rfl)) hsrc2 hdst2) next) : Prog (TpuEff nD τ sig (Elt F) Λ₀ .tc) α) Q) := by
  subst hn ho
  unfold ticket debt slotAny workPts
  iintro ⟨#He, ⟨HatS, HatR, HtS, HtR, HcR⟩, ⟨%fd, Hslot⟩, Hw, ⟨%Ws, HO⟩⟩ Hk
  ihave ⟨#HIs, #Hrs⟩ := (env_send P K k c) $$ He
  ihave ⟨#HIr, #Hrr⟩ := (env_recv P K k c) $$ He
  ihave ⟨#HIp, #Hrp⟩ := (env_recv P K k (peer (bit k) c)) $$ He
  ihave #Hlev := (env_lev P K) $$ He
  ihave ⟨Hsrc, Hrest⟩ := (pointsTo_split_subset (Finset.subset_univ (srcV k c).view.set)).1 $$ Hw
  iapply (Rounds.wp_send_pointsTo 𝒱₀ ER (Rd P) (c : Thread nD τ) none (c' := (peer (bit k) c : Thread nD τ)) (κ₁ := K (c, .inr (false, k))) (κ₂ := K (peer (bit k) c, .inr (true, k)))
    (src := srcV k c) (dst := slotV k)
    (r₁ := 0) (r₂ := 0) (d₁ := 0) (d₂ := 0) (fd := fd)
    (by rw [duties_send]; exact Finset.mem_singleton_self _) (by rw [duties_recv]; exact Finset.mem_singleton_self _)
    () () (N k) rfl (amount_send P k c 0) (amount_recv P k (peer (bit k) c) 0) (owedFrom c l) rfl (W := Ws)
    (by rw [payload_send]; exact BI.Entails.refl _)
    (by rw [payload_recv]; unfold recvPay; rw [peer_peer]; iintro H; iexists fd; iexact H)) $$ [Hsrc Hslot HO HtS HtR]
  · isplitr; · iexact HIs
    isplitr; · iexact HIp
    isplitl [Hsrc]; · iexact Hsrc
    isplitl [Hslot]; · iexact Hslot
    isplitl [HO]; · iexact HO
    isplitl [HtS]; · iexact HtS
    isplitr; · iexact Hrs
    isplitl [HtR]; · iexact HtR
    iexact Hrp
  iintro ⟨HcS, HO⟩
  iapply (Rounds.wp_wait_rest_token 𝒱₀ ER (Rd P) (c : Thread nD τ) none (κ := K (c, .inr (false, k)))
      (wpE_waitDma2_eq 𝒱₀ (c : Thread nD τ) none Set.univ) (Set.mem_univ _) () (O := owedFrom c l) (W := Ws) (R := 0) (m := 0) (T := ∅)
      (by rw [Nat.zero_add, expect_send]; rfl)) $$ [HcS HO HatS]
  · isplitr; · iexact HIs
    isplitl [HcS]; · iexact HcS
    isplitl [HO]; · iexact HO
    isplitr
    · iapply (mayWait_from c (.dma (sendS k)) l (fun k' _ => by
        have hn : ¬ isRecv (roundOf (sendCell k c)) (sendCell k c) := not_isRecv_send k c _
        unfold lv; rw [if_neg (send_ne_bar k), if_neg hn]; omega)); iexact Hlev
    iexact HatS
  iintro ⟨HO, HatS, -, Hpay⟩
  ihave Hsrc := (Entails.of_eq (rest_send P k c)) $$ Hpay
  iapply (Rounds.wp_wait_rest_token 𝒱₀ ER (Rd P) (c : Thread nD τ) none (κ := K (c, .inr (true, k)))
      (wpE_waitDma2_eq 𝒱₀ (c : Thread nD τ) none Set.univ) (Set.mem_univ _) () (O := owedFrom c l)
      (W := insert (SemLoc.dma (sendS k), ()) Ws) (R := 0) (m := 0) (T := ∅)
      (by rw [Nat.zero_add, expect_recv]; rfl)) $$ [HcR HO HatR]
  · isplitr; · iexact HIr
    isplitl [HcR]; · iexact HcR
    isplitl [HO]; · iexact HO
    isplitr
    · iapply (mayWait_from c (.dma (recvS k)) l (fun k' hk' => by
        rw [lv_recv]; have := hl k' hk'; omega)); iexact Hlev
    iexact HatR
  iintro ⟨HO, HatR, -, Hpay⟩
  ihave Hslot := (Entails.of_eq (rest_recv P k c)) $$ Hpay
  imod (Rounds.cell_close ER (Rd P) (Set.mem_univ (K (c, .inr (false, k)))) (fun h => h) (R := 0 + 1) (duties_later P (sendCell k c))) $$ [HatS] with HzS
  · isplitr; · iexact HIs
    iexact HatS
  imod (Rounds.cell_close ER (Rd P) (Set.mem_univ (K (c, .inr (true, k)))) (fun h => h) (R := 0 + 1) (duties_later P (recvCell k c))) $$ [HatR] with HzR
  · isplitr; · iexact HIr
    iexact HatR
  iapply Hk
  unfold closed sendPay
  isplitl [HzS HzR]
  · isplitl [HzS] <;> iassumption
  isplitl [Hslot]; · iexact Hslot
  isplitl [Hsrc Hrest]
  · iapply (pointsTo_split_subset (Finset.subset_univ (srcV k c).view.set)).2
    isplitl [Hsrc] <;> iassumption
  iexists _; iexact HO

/-- The halving update: the received rows are added. -/
theorem wp_add (k : Fin 8) (hk : k.val < 4) (c : Dev nD)
    (o : Fin 2 → ℕ) (ho : o = ![src k (peer (bit k) c), 0]) (inb : ∀ a, o a + (Sk k).size a ≤ S256x512.size a)
    (inb' : ∀ a, (![slotOff k, 0] : Fin 2 → ℕ) a + (Sk k).size a ≤ S512x512.size a)
    (pay : FVec F (Sk k) .f32 → FVec F (Sk k) .f32 → FVec F (Sk k) .f32) (hpay : ∀ a b, pay a b = addf a b)
    {h1 h3 : workM.view.LoadsAt (Rect.unit (s := S256x512) o (Sk k).size inb).toLoadRect}
    {h2 : recvM.view.LoadsAt (Rect.unit (s := S512x512) ![slotOff k, 0] (Sk k).size inb').toLoadRect} {h4 h5}
    {α : Type} {Q : α → sProp 𝕄} {next : PUnit → Prog (TpuEff nD τ sig (Elt F) Λ₀ .tc) α} :
    iprop(recvPay P k c ∗ workPts c (W P (tOf k) c))
      ⊢ iprop(((slotAny (F := F) k c ∗ workPts c (W P (tOf k + 1) c))
            -∗ wp frame (wpE (defs₀ (F := F)) 𝒱₀ (c : Thread nD τ) none) Set.univ (next ⟨⟩) Q)
          -∗ wp frame (wpE (defs₀ (F := F)) 𝒱₀ (c : Thread nD τ) none) Set.univ
              ((.op (TpuEff.load (p := .tc) (e := .f32) workM (Rect.unit (s := S256x512) o (Sk k).size inb).toLoadRect h1) fun (a : FVec F (Sk k) .f32) =>
               .op (TpuEff.load (p := .tc) (e := .f32) recvM (Rect.unit (s := S512x512) ![slotOff k, 0] (Sk k).size inb').toLoadRect h2) fun (b : FVec F (Sk k) .f32) =>
               .op (TpuEff.load (p := .tc) (e := .f32) workM (Rect.unit (s := S256x512) o (Sk k).size inb).toLoadRect h3) fun _ =>
               .op (.store workM (Rect.unit (s := S256x512) o (Sk k).size inb) (pay a b) Finset.univ h4 h5) next) : Prog (TpuEff nD τ sig (Elt F) Λ₀ .tc) α) Q) := by
  subst ho
  unfold recvPay workPts slotAny
  iintro ⟨⟨%fd, Hs⟩, Hw⟩ Hk
  iapply (wp_load 𝒱₀ (c : Thread nD τ) none Set.univ (m := workM) (Finset.subset_univ _)) $$ Hw; iintro Hw
  iapply (wp_load_rect 𝒱₀ (c : Thread nD τ) none Set.univ (m := recvM) (r := slotR k) (Finset.Subset.refl _)) $$ Hs; iintro Hs
  iapply (wp_load 𝒱₀ (c : Thread nD τ) none Set.univ (m := workM) (Finset.subset_univ _)) $$ Hw; iintro Hw
  iapply (wp_store 𝒱₀ (c : Thread nD τ) none Set.univ (m := workM) (r := dstR k c) (Mk := Finset.univ) (Finset.subset_univ _)) $$ Hw; iintro Hw
  iapply Hk
  isplitl [Hs]; · iexists _; iexact Hs
  rw [W_succ P (tOf k) k (kAt_tOf k) c, hpay]
  unfold combine; rw [if_pos hk]
  have hread := View.read_write_univ (Val := Elt F) (v := (slotV k).view) fd ((srcV k (peer (bit k) c)).view.read (Elt F) (W P (tOf k) (peer (bit k) c)))
  erw [hread]
  iexact Hw

/-- The doubling update: the received rows are taken. -/
theorem wp_take (k : Fin 8) (hk : ¬ k.val < 4) (c : Dev nD)
    (o : Fin 2 → ℕ) (ho : o = ![src k (peer (bit k) c), 0]) (inb : ∀ a, o a + (Sk k).size a ≤ S256x512.size a)
    (inb' : ∀ a, (![slotOff k, 0] : Fin 2 → ℕ) a + (Sk k).size a ≤ S512x512.size a)
    (pay : FVec F (Sk k) .f32 → FVec F (Sk k) .f32) (hpay : ∀ b, pay b = b)
    {h3 : workM.view.LoadsAt (Rect.unit (s := S256x512) o (Sk k).size inb).toLoadRect}
    {h2 : recvM.view.LoadsAt (Rect.unit (s := S512x512) ![slotOff k, 0] (Sk k).size inb').toLoadRect} {h4 h5}
    {α : Type} {Q : α → sProp 𝕄} {next : PUnit → Prog (TpuEff nD τ sig (Elt F) Λ₀ .tc) α} :
    iprop(recvPay P k c ∗ workPts c (W P (tOf k) c))
      ⊢ iprop(((slotAny (F := F) k c ∗ workPts c (W P (tOf k + 1) c))
            -∗ wp frame (wpE (defs₀ (F := F)) 𝒱₀ (c : Thread nD τ) none) Set.univ (next ⟨⟩) Q)
          -∗ wp frame (wpE (defs₀ (F := F)) 𝒱₀ (c : Thread nD τ) none) Set.univ
              ((.op (TpuEff.load (p := .tc) (e := .f32) recvM (Rect.unit (s := S512x512) ![slotOff k, 0] (Sk k).size inb').toLoadRect h2) fun (b : FVec F (Sk k) .f32) =>
               .op (TpuEff.load (p := .tc) (e := .f32) workM (Rect.unit (s := S256x512) o (Sk k).size inb).toLoadRect h3) fun _ =>
               .op (.store workM (Rect.unit (s := S256x512) o (Sk k).size inb) (pay b) Finset.univ h4 h5) next) : Prog (TpuEff nD τ sig (Elt F) Λ₀ .tc) α) Q) := by
  subst ho
  unfold recvPay workPts slotAny
  iintro ⟨⟨%fd, Hs⟩, Hw⟩ Hk
  iapply (wp_load_rect 𝒱₀ (c : Thread nD τ) none Set.univ (m := recvM) (r := slotR k) (Finset.Subset.refl _)) $$ Hs; iintro Hs
  iapply (wp_load 𝒱₀ (c : Thread nD τ) none Set.univ (m := workM) (Finset.subset_univ _)) $$ Hw; iintro Hw
  iapply (wp_store 𝒱₀ (c : Thread nD τ) none Set.univ (m := workM) (r := dstR k c) (Mk := Finset.univ) (Finset.subset_univ _)) $$ Hw; iintro Hw
  iapply Hk
  isplitl [Hs]; · iexists _; iexact Hs
  rw [W_succ P (tOf k) k (kAt_tOf k) c, hpay]
  unfold combine; rw [if_neg hk]
  have hread := View.read_write_univ (Val := Elt F) (v := (slotV k).view) fd ((srcV k (peer (bit k) c)).view.read (Elt F) (W P (tOf k) (peer (bit k) c)))
  erw [hread]
  iexact Hw

end Cert.KernelIdeal.Exchange
-- ==== Proof.KernelIdeal.Enter.lean ====
/-
The kernel's body on one device: what it computes by itself, the handshake, the eight rounds, the result.
-/
module

public import proofs.«01_k».proof.Proof.KernelIdeal.Round
public import Idealize.ShloMosaic.Lib.Ring
public import Idealize.ShloMosaic.Lib.Pipeline.Value

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device computes by itself -/

/-- The part of the result one device contributes: attention over its own heads, put through its own rows of `Wo`. -/
def partialOf (x : FVec F S2x128x512 .f32) (wq wo : FVec F S512x512 .f32) (kk vv : FVec F S2x128x8x64 .f32) : FVec F S256x512 .f32 :=
  let v9 := k0_pay2 x wq
  let v11 := k0_pay3 kk
  let v13 := k0_pay4 vv
  let v174 := k0_pay16 v9 v11 v13 (k0_pay5 x wq kk vv) (k0_pay8 v13 (k0_pay6 x wq) (k0_pay7 kk)) (k0_pay9 v9 v11 v13)
    (k0_pay12 v13 (k0_pay10 v9 v11) (k0_pay11 v9 v11)) (k0_pay13 v9 v11 v13) (k0_pay14 v9 v11) (k0_pay15 v13) (constant S128x64 .f32 0x00000000#32)
  k0_pay31 v13 v174 (k0_pay18 v13 (k0_pay17 v9 v11) (Scalar.ofBits .f32 0x3E000000#32)) (k0_pay19 v9 v11 v13)
    (k0_pay22 v13 (k0_pay20 v9 v11) (k0_pay21 v9 v11)) (k0_pay23 v9 v11 v13) (k0_pay24 v9 v11 v13)
    (k0_pay27 v13 (k0_pay25 v9) (k0_pay26 v11)) (k0_pay28 v9 v11 v13) (k0_pay29 v9 v11) (k0_pay30 v9 v11) wo

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- Device `c`'s inputs, as staged. -/
def in0 (c : Dev nD) : (cc0_stg0_0 : Ref sig .tc).ty.Contents (Elt F) := (win0_0.blk (0 : Fin 1)).view.read (Elt F) ((s₀ m ρ).mem ((c : Thread nD τ).loc main_arg0))
def in1 (c : Dev nD) : (cc0_stg1_0 : Ref sig .tc).ty.Contents (Elt F) := (win0_1.blk (0 : Fin 1)).view.read (Elt F) ((s₀ m ρ).mem ((c : Thread nD τ).loc main_arg1))
def in2 (c : Dev nD) : (cc0_stg2_0 : Ref sig .tc).ty.Contents (Elt F) := (win0_2.blk (0 : Fin 1)).view.read (Elt F) ((s₀ m ρ).mem ((c : Thread nD τ).loc main_arg2))
def in3 (c : Dev nD) : (cc0_stg3_0 : Ref sig .tc).ty.Contents (Elt F) := (win0_3.blk (0 : Fin 1)).view.read (Elt F) ((s₀ m ρ).mem ((c : Thread nD τ).loc main_arg3))
def in4 (c : Dev nD) : (cc0_stg4_0 : Ref sig .tc).ty.Contents (Elt F) := (win0_4.blk (0 : Fin 1)).view.read (Elt F) ((s₀ m ρ).mem ((c : Thread nD τ).loc main_arg4))

/-- What each device puts into its working buffer, and the result it reads off at the end. -/
def part (c : Dev nD) : FVec F S256x512 .f32 := partialOf (in0 m ρ c) (in1 m ρ c) (in2 m ρ c) (in3 m ρ c) (in4 m ρ c)
def outAt (c : Dev nD) : (cc0_stg5_0 : Ref sig .tc).ty.Contents (Elt F) := k0_pay1 (W (part m ρ) 8 c)

/-! ## The program's numbers -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer (bit 0) c := by revert c; decide +kernel
theorem dev6_eq (c : Dev nD) : (⟨k0_dev6 c, k0_dev6_lt c⟩ : Dev nD) = peer (bit 1) c := by revert c; decide +kernel
theorem dev7_eq (c : Dev nD) : (⟨k0_dev7 c, k0_dev7_lt c⟩ : Dev nD) = peer (bit 2) c := by revert c; decide +kernel
theorem dev8_eq (c : Dev nD) : (⟨k0_dev8 c, k0_dev8_lt c⟩ : Dev nD) = peer (bit 3) c := by revert c; decide +kernel
theorem dev9_eq (c : Dev nD) : (⟨k0_dev9 c, k0_dev9_lt c⟩ : Dev nD) = peer (bit 7) c := by revert c; decide +kernel
theorem dev10_eq (c : Dev nD) : (⟨k0_dev10 c, k0_dev10_lt c⟩ : Dev nD) = peer (bit 6) c := by revert c; decide +kernel
theorem dev11_eq (c : Dev nD) : (⟨k0_dev11 c, k0_dev11_lt c⟩ : Dev nD) = peer (bit 5) c := by revert c; decide +kernel
theorem dev12_eq (c : Dev nD) : (⟨k0_dev12 c, k0_dev12_lt c⟩ : Dev nD) = peer (bit 4) c := by revert c; decide +kernel
theorem off1_eq (c : Dev nD) : k0_off1 c = ![src 0 c, 0] := by revert c; decide +kernel
theorem off2_eq (c : Dev nD) : k0_off2 c = ![src 0 (peer (bit 0) c), 0] := by revert c; decide +kernel
theorem off3_eq (c : Dev nD) : k0_off3 c = ![src 1 c, 0] := by revert c; decide +kernel
theorem off4_eq (c : Dev nD) : k0_off4 c = ![src 1 (peer (bit 1) c), 0] := by revert c; decide +kernel
theorem off5_eq (c : Dev nD) : k0_off5 c = ![src 2 c, 0] := by revert c; decide +kernel
theorem off6_eq (c : Dev nD) : k0_off6 c = ![src 2 (peer (bit 2) c), 0] := by revert c; decide +kernel
theorem off7_eq (c : Dev nD) : k0_off7 c = ![src 3 c, 0] := by revert c; decide +kernel
theorem off8_eq (c : Dev nD) : k0_off8 c = ![src 3 (peer (bit 3) c), 0] := by revert c; decide +kernel
theorem off9_eq (c : Dev nD) : k0_off9 c = ![src 7 c, 0] := by revert c; decide +kernel
theorem off10_eq (c : Dev nD) : k0_off10 c = ![src 7 (peer (bit 7) c), 0] := by revert c; decide +kernel
theorem off11_eq (c : Dev nD) : k0_off11 c = ![src 6 c, 0] := by revert c; decide +kernel
theorem off12_eq (c : Dev nD) : k0_off12 c = ![src 6 (peer (bit 6) c), 0] := by revert c; decide +kernel
theorem off13_eq (c : Dev nD) : k0_off13 c = ![src 5 c, 0] := by revert c; decide +kernel
theorem off14_eq (c : Dev nD) : k0_off14 c = ![src 5 (peer (bit 5) c), 0] := by revert c; decide +kernel
theorem off15_eq (c : Dev nD) : k0_off15 c = ![src 4 c, 0] := by revert c; decide +kernel
theorem off16_eq (c : Dev nD) : k0_off16 c = ![src 4 (peer (bit 4) c), 0] := by revert c; decide +kernel
theorem pay32_eq (a b : FVec F (Sk 0) .f32) : k0_pay32 a b = addf a b := shapeCast_self _ _
theorem pay33_eq (a b : FVec F (Sk 1) .f32) : k0_pay33 a b = addf a b := shapeCast_self _ _
theorem pay34_eq (a b : FVec F (Sk 2) .f32) : k0_pay34 a b = addf a b := shapeCast_self _ _
theorem pay35_eq (a b : FVec F (Sk 3) .f32) : k0_pay35 a b = addf a b := shapeCast_self _ _
theorem pay36_eq (b : FVec F (Sk 7) .f32) : k0_pay36 b = b := shapeCast_self _ _
theorem pay37_eq (b : FVec F (Sk 6) .f32) : k0_pay37 b = b := shapeCast_self _ _
theorem pay38_eq (b : FVec F (Sk 5) .f32) : k0_pay38 b = b := shapeCast_self _ _
theorem pay39_eq (b : FVec F (Sk 4) .f32) : k0_pay39 b = b := shapeCast_self _ _
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The landing buffer in its eight slots -/

abbrev slots : Finset S512x512.Idx := Finset.univ.biUnion fun k : Fin 8 => (slotV k).view.set

theorem slots_disjoint (k k' : Fin 8) (h : k ≠ k') : Disjoint (slotV k).view.set (slotV k').view.set := by
  have hs (k : Fin 8) : (slotV k).view.set = (slotR k).set := View.set_slice_whole _ _
  rw [hs, hs]
  exact Rect.unit_disjoint (s := S512x512) 0 (by revert k k' h; decide)

omit [FloatOps F] in
theorem slots_split (c : Dev nD) (f : Buf (Elt F) ((c : Thread nD τ).loc cc0_scratch1)) :
    (((c : Thread nD τ).loc cc0_scratch1) ↦{fullShare} f : sProp 𝕄)
      ⊢ iprop((bigSep Finset.univ fun k : Fin 8 => slotAny (F := F) k c) ∗ ∃ g, ((c : Thread nD τ).loc cc0_scratch1) ↦[Finset.univ \ slots]{fullShare} g) := by
  iintro H
  ihave ⟨Hs, Hr⟩ := (pointsTo_split_subset (Finset.subset_univ slots)).1 $$ H
  isplitl [Hs]
  · iapply ((Entails.of_eq (Ring.pointsTo_sub_blocks (ℓ := (c : Thread nD τ).loc cc0_scratch1) (fun k : Fin 8 => (slotV k).view.set) slots_disjoint slots rfl f)).trans
      (bigSep_mono fun k _ => show _ ⊢ slotAny (F := F) k c from by unfold slotAny; iintro H; iexists f; iexact H))
    iexact Hs
  · iexists f; iexact Hr

omit [FloatOps F] in
theorem slots_join (c : Dev nD) (f₀ : Buf (Elt F) ((c : Thread nD τ).loc cc0_scratch1)) :
    iprop((bigSep Finset.univ fun k : Fin 8 => slotAny (F := F) k c) ∗ ∃ g, ((c : Thread nD τ).loc cc0_scratch1) ↦[Finset.univ \ slots]{fullShare} g)
      ⊢ (iprop(∃ f, ((c : Thread nD τ).loc cc0_scratch1) ↦{fullShare} f) : sProp 𝕄) := by
  unfold slotAny
  iintro ⟨Hs, ⟨%g, Hr⟩⟩
  ihave ⟨%f, Hs⟩ := (Ring.pointsTo_sub_blocks_join_exists (ℓ := (c : Thread nD τ).loc cc0_scratch1) (fun k : Fin 8 => (slotV k).view.set) slots_disjoint slots rfl f₀) $$ Hs
  iexists _
  iapply (pointsTo_join_subset (Finset.subset_univ slots)); isplitl [Hs] <;> iassumption

omit [FloatOps F] in
theorem chain8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem chain4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The handshake -/

variable (P : Dev nD → FVec F S256x512 .f32) (K : Dev nD × Cel → ℕ)

theorem wp_enter (r : Fin 4) (c n : Dev nD) (hn : n = peer r c) (O : CellTallies nD τ sig Unit)
    {α : Type} {Q : α → sProp 𝕄} {next : PUnit → Prog (TpuEff nD τ sig (Elt F) Λ₀ .tc) α} :
    iprop(env P K ∗ dutyTok ER (barCell (peer r c)) 0 r ∗ slotAny (F := F) ⟨r.val, by omega⟩ c ∗ slotAny (F := F) ⟨r.val + 4, by omega⟩ c
        ∗ debt (F := F) c (O + owedB c r))
      ⊢ iprop((debt (F := F) c O -∗ wp frame (wpE (defs₀ (F := F)) 𝒱₀ (c : Thread nD τ) none) Set.univ (next ⟨⟩) Q)
          -∗ wp frame (wpE (defs₀ (F := F)) 𝒱₀ (c : Thread nD τ) none) Set.univ
              ((.op (.semSignal ((n, Proc.tc) : Thread nD τ) barS (1#32).toInt) next) : Prog (TpuEff nD τ sig (Elt F) Λ₀ .tc) α) Q) := by
  subst hn
  unfold debt
  iintro ⟨#He, Ht, Ha, Hb, ⟨%Ws, HO⟩⟩ Hk
  ihave ⟨#HI, #Hr⟩ := (env_bar P K (peer r c)) $$ He
  iapply (Rounds.wp_signal 𝒱₀ ER (Rd P) (c : Thread nD τ) none (dst := (peer r c : Thread nD τ)) (κ := K (peer r c, .inl ()))
      (d := r) (by rw [duties_bar]; exact Finset.mem_univ _) ((amount_bar P (peer r c) r).trans (by decide)) () O rfl)
    $$ [HO Ht Ha Hb]
  · isplitr; · iexact HI
    isplitl [HO]; · iexact HO
    isplitl [Ht]; · iexact Ht
    isplitl [Ha Hb]
    · rw [payload_bar]; unfold barPay; rw [peer_peer]; isplitl [Ha] <;> iassumption
    iexact Hr
  iintro HO
  iapply Hk; iexists _; iexact HO

theorem wp_entered (c : Dev nD)
    {α : Type} {Q : α → sProp 𝕄} {next : PUnit → Prog (TpuEff nD τ sig (Elt F) Λ₀ .tc) α} :
    iprop(env P K ∗ atPos ER (barCell c) 0 ∅ 0 ∗ cred (tallyAt (barCell c) () 4) ∗ debt (F := F) c (owedAll c))
      ⊢ iprop(((debt (F := F) c (owedAll c) ∗ semVal (barCell c) 0 ∗ bigSep Finset.univ fun k : Fin 8 => slotAny (F := F) k (peer (bit k) c))
            -∗ wp frame (wpE (defs₀ (F := F)) 𝒱₀ (c : Thread nD τ) none) Set.univ (next ⟨⟩) Q)
          -∗ wp frame (wpE (defs₀ (F := F)) 𝒱₀ (c : Thread nD τ) none) Set.univ
              ((.op (.semWait barS (4#32).toInt) next) : Prog (TpuEff nD τ sig (Elt F) Λ₀ .tc) α) Q) := by
  unfold debt
  iintro ⟨#He, Hat, Hc, ⟨%Ws, HO⟩⟩ Hk
  ihave ⟨#HI, -⟩ := (env_bar P K c) $$ He
  ihave #Hlev := (env_lev P K) $$ He
  iapply (Rounds.wp_wait_rest_token 𝒱₀ ER (Rd P) (c : Thread nD τ) none (κ := K (c, .inl ()))
      (wpE_semWait_eq 𝒱₀ (c : Thread nD τ) none Set.univ) (Set.mem_univ _) () (O := owedAll c) (W := Ws) (R := 0) (m := 0) (T := ∅)
      (by rw [expect_bar]; decide)) $$ [Hc HO Hat]
  · isplitr; · iexact HI
    isplitl [Hc]; · iexact Hc
    isplitl [HO]; · iexact HO
    isplitr
    · iapply (mayWait_from c (.reg barS) _ (fun k _ => by rw [lv_bar]; omega)); iexact Hlev
    iexact Hat
  iintro ⟨HO, Hat, -, Hpay⟩
  ihave Hp := (Entails.of_eq (rest_bar P c)) $$ Hpay
  imod (Rounds.cell_close ER (Rd P) (Set.mem_univ (K (c, .inl ()))) (fun h => h) (R := 0 + 1) (duties_later P (barCell c))) $$ [Hat] with Hz
  · isplitr; · iexact HI
    iexact Hat
  iapply Hk
  isplitl [HO]; · iexists _; iexact HO
  isplitl [Hz]; · iexact Hz
  rw [chain8]
  ihave Hp := (Entails.of_eq (chain4 (fun r => barPay (F := F) r c))) $$ Hp
  unfold barPay
  icases Hp with ⟨⟨H0, H4⟩, ⟨H1, H5⟩, ⟨H2, H6⟩, ⟨H3, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Exchange
-- ==== Proof.KernelIdeal.Body.lean ====
/-
The kernel's body on one device, from its staged inputs to its staged result.
-/
module

public import proofs.«01_k».proof.Proof.KernelIdeal.Enter
public import proofs.«01_k».proof.Proof.Gen.KernelIdeal.Points

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A load whose value is known. -/
theorem wp_load_eq (c : Dev nD) {s : Shape} {m : Memref sig .tc .vmem s .f32} {r : LoadRect s} {hl : m.view.LoadsAt r}
    {f : Buf (Elt F) (m.view.loc (c : Thread nD τ))} {w : r.shape.Idx → Elt F .f32} (h : m.view.readAt (Elt F) r f = w)
    {α : Type} {Q : α → sProp 𝕄} {next : (r.shape.Idx → Elt F .f32) → Prog (TpuEff nD τ sig (Elt F) Λ₀ .tc) α} :
    ((m.view.loc (c : Thread nD τ)) ↦{fullShare} f : sProp 𝕄)
      ⊢ iprop((((m.view.loc (c : Thread nD τ)) ↦{fullShare} f) -∗ wp frame (wpE (defs₀ (F := F)) 𝒱₀ (c : Thread nD τ) none) Set.univ (next w) Q)
          -∗ wp frame (wpE (defs₀ (F := F)) 𝒱₀ (c : Thread nD τ) none) Set.univ
              (.op (.load (p := .tc) m r hl) next : Prog (TpuEff nD τ sig (Elt F) Λ₀ .tc) α) Q) := by
  rw [← h]
  exact wp_load 𝒱₀ (c : Thread nD τ) none Set.univ (Finset.subset_univ _)

/-- A store whose effect on the buffer is known. -/
theorem wp_store_eq (c : Dev nD) {s : Shape} {m : Memref sig .tc .vmem s .f32} {r : Rect s} {w : r.shape.Idx → Elt F .f32} {hx hm}
    {f g : Buf (Elt F) (m.view.loc (c : Thread nD τ))} (h : (m.access r).write (Elt F) f w Finset.univ = g)
    {α : Type} {Q : α → sProp 𝕄} {next : PUnit → Prog (TpuEff nD τ sig (Elt F) Λ₀ .tc) α} :
    ((m.view.loc (c : Thread nD τ)) ↦{fullShare} f : sProp 𝕄)
      ⊢ iprop((((m.view.loc (c : Thread nD τ)) ↦{fullShare} g) -∗ wp frame (wpE (defs₀ (F := F)) 𝒱₀ (c : Thread nD τ) none) Set.univ (next ⟨⟩) Q)
          -∗ wp frame (wpE (defs₀ (F := F)) 𝒱₀ (c : Thread nD τ) none) Set.univ
              (.op (.store (p := .tc) m r w Finset.univ hx hm) next : Prog (TpuEff nD τ sig (Elt F) Λ₀ .tc) α) Q) := by
  rw [← h]
  exact wp_store 𝒱₀ (c : Thread nD τ) none Set.univ (m := m) (r := r) (Finset.subset_univ _)

section Body
variable (m : (ℓ : Loc nD τ sig) → Buf (Elt F) ℓ) (ρ : Dev nD → PrngReg) (K : Dev nD × Cel → ℕ)

/-- What the exchange needs of device `c` besides its buffers. -/
def ready (c : Dev nD) : sProp 𝕄 :=
  iprop(env (part m ρ) K ∗ (bigSep Finset.univ fun k : Fin 8 => ticket (F := F) k c) ∗ (bigSep Finset.univ fun r : Fin 4 => dutyTok ER (barCell (peer r c)) 0 r)
    ∗ atPos ER (barCell c) 0 ∅ 0 ∗ cred (tallyAt (barCell c) () 4))

/-- Every cell of device `c` closed, its buffers whole. -/
def finished (c : Dev nD) : sProp 𝕄 :=
  iprop((bigSep Finset.univ fun k : Fin 8 => closed (F := F) k c) ∗ semVal (barCell c) 0
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- A staging buffer held whole at contents `X`. -/
abbrev held (c : Dev nD) (b : Ref sig .tc) (X : b.ty.Contents (Elt F)) : sProp 𝕄 := ((c : Thread nD τ).loc b) ↦{fullShare} X

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3

set_option pp.maxSteps 300 in
set_option maxHeartbeats 4000000 in
theorem sound_body (c : Dev nD) (g : (cc0_stg5_0 : Ref sig .tc).ty.Contents (Elt F)) (Kt : PUnit → sProp 𝕄) :
    iprop((ready m ρ K c ∗ (∃ f, workPts c f) ∗ (∃ f : Buf (Elt F) ((c : Thread nD τ).loc cc0_scratch1), ((c : Thread nD τ).loc cc0_scratch1) ↦{fullShare} f)
          ∗ debt (F := F) c (O₀ c) ∗ held c cc0_stg0_0 (in0 m ρ c) ∗ held c cc0_stg1_0 (in1 m ρ c) ∗ held c cc0_stg2_0 (in2 m ρ c)
          ∗ held c cc0_stg3_0 (in3 m ρ c) ∗ held c cc0_stg4_0 (in4 m ρ c) ∗ held c cc0_stg5_0 g)
        ∗ ((finished (F := F) c ∗ debt (F := F) c 0 ∗ held c cc0_stg0_0 (in0 m ρ c) ∗ held c cc0_stg1_0 (in1 m ρ c) ∗ held c cc0_stg2_0 (in2 m ρ c)
          ∗ held c cc0_stg3_0 (in3 m ρ c) ∗ held c cc0_stg4_0 (in4 m ρ c) ∗ held c cc0_stg5_0 (outAt m ρ c)) -∗ Kt ⟨⟩))
      ⊢ wp frame (wpE (defs₀ (F := F)) 𝒱₀ (c : Thread nD τ) none) Set.univ theBody Kt := by
  unfold theBody
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold ready
  iintro ⟨⟨⟨#He, HT, Hd, Hat, Hcb⟩, ⟨%f0, Hw⟩, ⟨%f1, Hr⟩, HO, H0, H1, H2, H3, H4, H5⟩, Hk⟩
  ihave ⟨HT0, HT1, HT2, HT3, HT4, HT5, HT6, HT7⟩ := (Entails.of_eq (chain8 (fun k => ticket (F := F) k c))) $$ HT
  ihave ⟨Hd0, Hd1, Hd2, Hd3⟩ := (Entails.of_eq (chain4 (fun r => (dutyTok ER (barCell (peer r c)) 0 r : sProp 𝕄)))) $$ Hd
  ihave ⟨Hs, Hrest⟩ := (slots_split (F := F) c f1) $$ Hr
  ihave ⟨HS0, HS1, HS2, HS3, HS4, HS5, HS6, HS7⟩ := (Entails.of_eq (chain8 (fun k => slotAny (F := F) k c))) $$ Hs
  unfold workPts
  iapply (wp_load_eq c (m := Memref.whole cc0_stg0_0) (Memref.readAt_unit_zero (Elt F) cc0_stg0_0 hz3 _ _)) $$ H0; iintro H0
  iapply (wp_load_eq c (m := Memref.whole cc0_stg1_0) (Memref.readAt_unit_zero (Elt F) cc0_stg1_0 hz2 _ _)) $$ H1; iintro H1
  iapply (wp_load_eq c (m := Memref.whole cc0_stg3_0) (Memref.readAt_unit_zero (Elt F) cc0_stg3_0 hz4 _ _)) $$ H3; iintro H3
  iapply (wp_load_eq c (m := Memref.whole cc0_stg4_0) (Memref.readAt_unit_zero (Elt F) cc0_stg4_0 hz4 _ _)) $$ H4; iintro H4
  iapply (wp_load_eq c (m := Memref.whole cc0_stg2_0) (Memref.readAt_unit_zero (Elt F) cc0_stg2_0 hz2 _ _)) $$ H2; iintro H2
  iapply (wp_load_eq c (m := Memref.whole cc0_scratch0) (Memref.readAt_unit_zero (Elt F) cc0_scratch0 hz2 _ _)) $$ Hw; iintro Hw
  iapply (wp_store_eq c (m := Memref.whole cc0_scratch0) (Memref.write_access_unit_zero_univ (Elt F) cc0_scratch0 hz2 _ _ _)) $$ Hw; iintro Hw
  have h0 : W (part m ρ) (tOf 0) c = part m ρ c := rfl
  rw [show part m ρ c = partialOf (in0 m ρ c) (in1 m ρ c) (in2 m ρ c) (in3 m ρ c) (in4 m ρ c) from rfl] at h0
  unfold partialOf at h0
  dsimp only at h0
  ihave Hw := (Entails.of_eq (congrArg (fun X => (((c : Thread nD τ).loc cc0_scratch0) ↦{fullShare} X : sProp 𝕄)) h0.symm)) $$ Hw
  ihave Hw := (show (((c : Thread nD τ).loc cc0_scratch0) ↦{fullShare} W (part m ρ) (tOf 0) c : sProp 𝕄) ⊢ workPts c (W (part m ρ) (tOf 0) c) from Entails.of_eq rfl) $$ Hw
  iapply (wp_enter (part m ρ) K 0 c _ (dev1_eq c) (pile (owedB c) (owedAll c) [1, 2, 3])) $$ [HO Hd0 HS0 HS4]
  · isplitr; · iexact He
    isplitl [Hd0]; · iexact Hd0
    isplitl [HS0]; · iexact HS0
    isplitl [HS4]; · iexact HS4
    iexact HO
  iintro HO
  iapply (wp_enter (part m ρ) K 1 c _ (dev2_eq c) (pile (owedB c) (owedAll c) [2, 3])) $$ [HO Hd1 HS1 HS5]
  · isplitr; · iexact He
    isplitl [Hd1]; · iexact Hd1
    isplitl [HS1]; · iexact HS1
    isplitl [HS5]; · iexact HS5
    iexact HO
  iintro HO
  iapply (wp_enter (part m ρ) K 2 c _ (dev3_eq c) (pile (owedB c) (owedAll c) [3])) $$ [HO Hd2 HS2 HS6]
  · isplitr; · iexact He
    isplitl [Hd2]; · iexact Hd2
    isplitl [HS2]; · iexact HS2
    isplitl [HS6]; · iexact HS6
    iexact HO
  iintro HO
  iapply (wp_enter (part m ρ) K 3 c _ (dev4_eq c) (pile (owedB c) (owedAll c) [])) $$ [HO Hd3 HS3 HS7]
  · isplitr; · iexact He
    isplitl [Hd3]; · iexact Hd3
    isplitl [HS3]; · iexact HS3
    isplitl [HS7]; · iexact HS7
    iexact HO
  iintro HO
  iapply (wp_entered (part m ρ) K c) $$ [HO Hat Hcb]
  · isplitr; · iexact He
    isplitl [Hat]; · iexact Hat
    isplitl [Hcb]; · iexact Hcb
    iexact HO
  iintro ⟨HO, Hzb, Hs⟩
  ihave ⟨HP0, HP1, HP2, HP3, HP4, HP5, HP6, HP7⟩ := (Entails.of_eq (chain8 (fun k => slotAny (F := F) k (peer (bit k) c)))) $$ Hs
  iapply (wp_exchange (part m ρ) K 0 c _ (dev5_eq c) [1, 2, 3, 7, 6, 5, 4] (by decide) _ (off1_eq c) _ _) $$ [HT0 HP0 Hw HO]
  · isplitr; · iexact He
    isplitl [HT0]; · iexact HT0
    isplitl [HP0]; · iexact HP0
    isplitl [Hw]; · iexact Hw
    iexact HO
  iintro ⟨Hz0, HP0, Hw, HO⟩
  iapply (wp_add (part m ρ) 0 (by decide) c _ (off2_eq c) _ _ k0_pay32 pay32_eq) $$ [HP0 Hw]
  · isplitl [HP0] <;> iassumption
  iintro ⟨HP0, Hw⟩
  iapply (wp_exchange (part m ρ) K 1 c _ (dev6_eq c) [2, 3, 7, 6, 5, 4] (by decide) _ (off3_eq c) _ _) $$ [HT1 HP1 Hw HO]
  · isplitr; · iexact He
    isplitl [HT1]; · iexact HT1
    isplitl [HP1]; · iexact HP1
    isplitl [Hw]; · iexact Hw
    iexact HO
  iintro ⟨Hz1, HP1, Hw, HO⟩
  iapply (wp_add (part m ρ) 1 (by decide) c _ (off4_eq c) _ _ k0_pay33 pay33_eq) $$ [HP1 Hw]
  · isplitl [HP1] <;> iassumption
  iintro ⟨HP1, Hw⟩
  iapply (wp_exchange (part m ρ) K 2 c _ (dev7_eq c) [3, 7, 6, 5, 4] (by decide) _ (off5_eq c) _ _) $$ [HT2 HP2 Hw HO]
  · isplitr; · iexact He
    isplitl [HT2]; · iexact HT2
    isplitl [HP2]; · iexact HP2
    isplitl [Hw]; · iexact Hw
    iexact HO
  iintro ⟨Hz2, HP2, Hw, HO⟩
  iapply (wp_add (part m ρ) 2 (by decide) c _ (off6_eq c) _ _ k0_pay34 pay34_eq) $$ [HP2 Hw]
  · isplitl [HP2] <;> iassumption
  iintro ⟨HP2, Hw⟩
  iapply (wp_exchange (part m ρ) K 3 c _ (dev8_eq c) [7, 6, 5, 4] (by decide) _ (off7_eq c) _ _) $$ [HT3 HP3 Hw HO]
  · isplitr; · iexact He
    isplitl [HT3]; · iexact HT3
    isplitl [HP3]; · iexact HP3
    isplitl [Hw]; · iexact Hw
    iexact HO
  iintro ⟨Hz3, HP3, Hw, HO⟩
  iapply (wp_add (part m ρ) 3 (by decide) c _ (off8_eq c) _ _ k0_pay35 pay35_eq) $$ [HP3 Hw]
  · isplitl [HP3] <;> iassumption
  iintro ⟨HP3, Hw⟩
  iapply (wp_exchange (part m ρ) K 7 c _ (dev9_eq c) [6, 5, 4] (by decide) _ (off9_eq c) _ _) $$ [HT7 HP7 Hw HO]
  · isplitr; · iexact He
    isplitl [HT7]; · iexact HT7
    isplitl [HP7]; · iexact HP7
    isplitl [Hw]; · iexact Hw
    iexact HO
  iintro ⟨Hz7, HP7, Hw, HO⟩
  iapply (wp_take (part m ρ) 7 (by decide) c _ (off10_eq c) _ _ k0_pay36 pay36_eq) $$ [HP7 Hw]
  · isplitl [HP7] <;> iassumption
  iintro ⟨HP7, Hw⟩
  iapply (wp_exchange (part m ρ) K 6 c _ (dev10_eq c) [5, 4] (by decide) _ (off11_eq c) _ _) $$ [HT6 HP6 Hw HO]
  · isplitr; · iexact He
    isplitl [HT6]; · iexact HT6
    isplitl [HP6]; · iexact HP6
    isplitl [Hw]; · iexact Hw
    iexact HO
  iintro ⟨Hz6, HP6, Hw, HO⟩
  iapply (wp_take (part m ρ) 6 (by decide) c _ (off12_eq c) _ _ k0_pay37 pay37_eq) $$ [HP6 Hw]
  · isplitl [HP6] <;> iassumption
  iintro ⟨HP6, Hw⟩
  iapply (wp_exchange (part m ρ) K 5 c _ (dev11_eq c) [4] (by decide) _ (off13_eq c) _ _) $$ [HT5 HP5 Hw HO]
  · isplitr; · iexact He
    isplitl [HT5]; · iexact HT5
    isplitl [HP5]; · iexact HP5
    isplitl [Hw]; · iexact Hw
    iexact HO
  iintro ⟨Hz5, HP5, Hw, HO⟩
  iapply (wp_take (part m ρ) 5 (by decide) c _ (off14_eq c) _ _ k0_pay38 pay38_eq) $$ [HP5 Hw]
  · isplitl [HP5] <;> iassumption
  iintro ⟨HP5, Hw⟩
  iapply (wp_exchange (part m ρ) K 4 c _ (dev12_eq c) [] (by decide) _ (off15_eq c) _ _) $$ [HT4 HP4 Hw HO]
  · isplitr; · iexact He
    isplitl [HT4]; · iexact HT4
    isplitl [HP4]; · iexact HP4
    isplitl [Hw]; · iexact Hw
    iexact HO
  iintro ⟨Hz4, HP4, Hw, HO⟩
  iapply (wp_take (part m ρ) 4 (by decide) c _ (off16_eq c) _ _ k0_pay39 pay39_eq) $$ [HP4 Hw]
  · isplitl [HP4] <;> iassumption
  iintro ⟨HP4, Hw⟩
  unfold workPts
  iapply (wp_load_eq c (m := Memref.whole cc0_scratch0) (Memref.readAt_unit_zero (Elt F) cc0_scratch0 hz2 _ _)) $$ Hw; iintro Hw
  iapply (wp_load_eq c (m := Memref.whole cc0_stg5_0) (Memref.readAt_unit_zero (Elt F) cc0_stg5_0 hz3 _ _)) $$ H5; iintro H5
  iapply (wp_store_eq c (m := Memref.whole cc0_stg5_0) (Memref.write_access_unit_zero_univ (Elt F) cc0_stg5_0 hz3 _ _ _)) $$ H5; iintro H5
  rw [wp_ret]; imodintro
  iapply Hk
  isplitl [Hz0 Hz1 Hz2 Hz3 Hz4 Hz5 Hz6 Hz7 Hzb Hw HP0 HP1 HP2 HP3 HP4 HP5 HP6 HP7 Hrest]
  · unfold finished
    isplitl [Hz0 Hz1 Hz2 Hz3 Hz4 Hz5 Hz6 Hz7]
    · rw [chain8]
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      iexact Hz7
    isplitl [Hzb]; · iexact Hzb
    isplitl [Hw]; · iexists _; iexact Hw
    iapply (slots_join (F := F) c f1)
    isplitl [HP0 HP1 HP2 HP3 HP4 HP5 HP6 HP7]
    · rw [chain8]
      isplitl [HP0]; · iexact HP0
      isplitl [HP1]; · iexact HP1
      isplitl [HP2]; · iexact HP2
      isplitl [HP3]; · iexact HP3
      isplitl [HP4]; · iexact HP4
      isplitl [HP5]; · iexact HP5
      isplitl [HP6]; · iexact HP6
      iexact HP7
    iexact Hrest
  isplitl [HO]; · iexact HO
  isplitl [H0]; · iexact H0
  isplitl [H1]; · iexact H1
  isplitl [H2]; · iexact H2
  isplitl [H3]; · iexact H3
  isplitl [H4]; · iexact H4
  iexact H5

end Body

end Cert.KernelIdeal.Exchange
-- ==== Proof.KernelIdeal.Launch.lean ====
/-
The launch: the pipeline around the body, the cells and their tokens dealt out, the run of the whole program.
-/
module

public import proofs.«01_k».proof.Proof.KernelIdeal.Body
public import proofs.«01_k».proof.Proof.Gen.KernelIdeal.Launch
public import Idealize.ShloMosaic.Lib.Pipeline.CollectiveSegs

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

attribute [local irreducible] outAt finished ready

/-- What device `c` starts from, and what it ends with. -/
def start (c : Dev nD) : sProp 𝕄 := iprop(∃ K, ready m ρ K c)
def Φ₀ (c : Dev nD) : sProp 𝕄 :=
  iprop(start m ρ c ∗ (∃ f, workPts c f) ∗ (∃ f : Buf (Elt F) ((c : Thread nD τ).loc cc0_scratch1), ((c : Thread nD τ).loc cc0_scratch1) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m ρ c
    | ⟨1, _⟩ => in1 m ρ c
    | ⟨2, _⟩ => in2 m ρ c
    | ⟨3, _⟩ => in3 m ρ c
    | ⟨4, _⟩ => in4 m ρ c
    | ⟨5, _⟩ => outAt m ρ c
  Φ t := match t with
    | ⟨0, _⟩ => Φ₀ m ρ c
    | ⟨_ + 1, _⟩ => finished (F := F) c
  q _ := fullShare
  owed t := match t with
    | ⟨0, _⟩ => O₀ c
    | ⟨_ + 1, _⟩ => 0

abbrev t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at known contents, as the pipeline states it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem stg_held (c : Dev nD) (b : Ref sig .tc) (X : b.ty.Contents (Elt F)) : stg c b X ⊢ held c b X := by
  iintro ⟨%f, %h, H⟩; subst h; iexact H
omit [FloatOps F] in
theorem held_stg (c : Dev nD) (b : Ref sig .tc) (X : b.ty.Contents (Elt F)) : held c b X ⊢ stg c b X := by
  iintro H; iexists X; isplitr; · (ipureintro; rfl)
  iexact H

theorem before_in (c : Dev nD) (d) :
    (dats m ρ 0 c).before (0 : Fin 6) t₀ d = in0 m ρ c := by unfold Dat.before; rw [if_pos (fetch0_0 t₀)]; rfl
theorem before_in1 (c : Dev nD) (d) :
    (dats m ρ 0 c).before (1 : Fin 6) t₀ d = in1 m ρ c := by unfold Dat.before; rw [if_pos (fetch0_1 t₀)]; rfl
theorem before_in2 (c : Dev nD) (d) :
    (dats m ρ 0 c).before (2 : Fin 6) t₀ d = in2 m ρ c := by unfold Dat.before; rw [if_pos (fetch0_2 t₀)]; rfl
theorem before_in3 (c : Dev nD) (d) :
    (dats m ρ 0 c).before (3 : Fin 6) t₀ d = in3 m ρ c := by unfold Dat.before; rw [if_pos (fetch0_3 t₀)]; rfl
theorem before_in4 (c : Dev nD) (d) :
    (dats m ρ 0 c).before (4 : Fin 6) t₀ d = in4 m ρ c := by unfold Dat.before; rw [if_pos (fetch0_4 t₀)]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(finished (F := F) c ∗ (dats m ρ 0 c).owesAt () t₀.succ
    ∗ stg c cc0_stg0_0 (in0 m ρ c) ∗ stg c cc0_stg1_0 (in1 m ρ c) ∗ stg c cc0_stg2_0 (in2 m ρ c) ∗ stg c cc0_stg3_0 (in3 m ρ c)
    ∗ stg c cc0_stg4_0 (in4 m ρ c) ∗ stg c cc0_stg5_0 (outAt m ρ c))

omit [FloatOps F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem body_point (c : Dev nD) :
    bodyPre m ρ c ⊢ wp frame (wpE (defs₀ (F := F)) 𝒱₀ (c : Thread nD τ) none) Set.univ theBody (fun _ => bodyPost m ρ c) := by
  unfold bodyPre Φ₀ start Dat.owesAt Pipeline.owesWithin
  simp only [before_in, before_in1, before_in2, before_in3, before_in4]
  iintro ⟨⟨⟨%K, Hg⟩, Hw, Hr⟩, ⟨%Ws, %hWs, HO⟩, ⟨%d0, H0⟩, ⟨%d1, H1⟩, ⟨%d2, H2⟩, ⟨%d3, H3⟩, ⟨%d4, H4⟩, ⟨%d5, H5⟩⟩
  rw [show (dats m ρ 0 c).owed t₀.castSucc = O₀ c from rfl]
  ihave H0 := (stg_held c cc0_stg0_0 _) $$ H0
  ihave H1 := (stg_held c cc0_stg1_0 _) $$ H1
  ihave H2 := (stg_held c cc0_stg2_0 _) $$ H2
  ihave H3 := (stg_held c cc0_stg3_0 _) $$ H3
  ihave H4 := (stg_held c cc0_stg4_0 _) $$ H4
  ihave H5 := (stg_held c cc0_stg5_0 _) $$ H5
  iapply (sound_body m ρ K c _ fun _ => bodyPost m ρ c)
  isplitl
  · isplitl [Hg]; · iexact Hg
    isplitl [Hw]; · iexact Hw
    isplitl [Hr]; · iexact Hr
    isplitl [HO]; · unfold debt; iexists Ws; iexact HO
    isplitl [H0]; · iexact H0
    isplitl [H1]; · iexact H1
    isplitl [H2]; · iexact H2
    isplitl [H3]; · iexact H3
    isplitl [H4]; · iexact H4
    iexact H5
  · iintro ⟨Hf, HO, H0, H1, H2, H3, H4, H5⟩
    unfold bodyPost Dat.owesAt Pipeline.owesWithin debt
    rw [show (dats m ρ 0 c).owed t₀.succ = 0 from rfl]
    icases HO with ⟨%Ws', HO⟩
    isplitl [Hf]; · iexact Hf
    isplitl [HO]
    · iexists Ws'; isplitr; · (ipureintro; exact fun _ _ => Or.inl trivial)
      iexact HO
    isplitl [H0]; · iapply (held_stg c cc0_stg0_0 _); iexact H0
    isplitl [H1]; · iapply (held_stg c cc0_stg1_0 _); iexact H1
    isplitl [H2]; · iapply (held_stg c cc0_stg2_0 _); iexact H2
    isplitl [H3]; · iapply (held_stg c cc0_stg3_0 _); iexact H3
    isplitl [H4]; · iapply (held_stg c cc0_stg4_0 _); iexact H4
    iapply (held_stg c cc0_stg5_0 _); iexact H5

theorem bodyAt_eq : bodyAt0 (F := F) t₀ = theBody (F := F) := by
  unfold theBody bodyAt0
  congr 1
theorem prog_eq : (defs₀ (F := F)) Proc.tc 0 (t₀, cfg0.slots t₀) = theBody (F := F) :=
  (show _ = bodyAt0 (F := F) t₀ from rfl).trans bodyAt_eq

/-- The pipeline's one point is the body. -/
theorem body_obligation (c : Dev nD) : BodyObligation (dats (F := F) m ρ 0 c) (defs₀ (F := F)) 𝒱₀ () Set.univ := fun t => by
  rw [show t = t₀ from fin_N0 t, bigSep_W, bigSep_W]
  simp only [owns_whole_eq]
  have h := body_point m ρ c
  rw [← prog_eq] at h
  exact h

/-! ## The cells, their tokens and the launch's step -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Cel → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The rights to credit a device's cells: four on its barrier cell, one on each other. -/
abbrev Tok : Type := Fin 4 ⊕ (Bool × Fin 8)
abbrev tokOf (cj : Dev nD × Tok) : GSem nD τ sig × ℕ × Fin 4 := match cj.2 with
  | .inl r => (barCell cj.1, 0, r)
  | .inr bk => (kcell (cj.1, .inr bk), 0, 0)
theorem tokOf_injective : Function.Injective (tokOf : Dev nD × Tok → GSem nD τ sig × ℕ × Fin 4) := by
  rintro ⟨c, j⟩ ⟨c', j'⟩ h
  have hg := congrArg (fun x : GSem nD τ sig × ℕ × Fin 4 => x.1) h
  have hd := congrArg (fun x : GSem nD τ sig × ℕ × Fin 4 => x.2.2) h
  rcases j with r | bk <;> rcases j' with r' | bk'
  · have := kcell_injective (a₁ := (c, .inl ())) (a₂ := (c', .inl ())) hg
    rw [(Prod.mk.inj this).1, show r = r' from hd]
  · exact absurd (kcell_injective (a₁ := (c, .inl ())) (a₂ := (c', .inr bk')) hg) (fun e => by cases (Prod.mk.inj e).2)
  · exact absurd (kcell_injective (a₁ := (c, .inr bk)) (a₂ := (c', .inl ())) hg) (fun e => by cases (Prod.mk.inj e).2)
  · have := kcell_injective (a₁ := (c, .inr bk)) (a₂ := (c', .inr bk')) hg
    rw [(Prod.mk.inj this).1, Sum.inr.inj (Prod.mk.inj this).2]
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The rights to credit device `c`'s own cells. -/
def toks (c : Dev nD) : sProp 𝕄 :=
  iprop((bigSep Finset.univ fun r : Fin 4 => dutyTok ER (barCell c) 0 r)
    ∗ (bigSep Finset.univ fun k : Fin 8 => dutyTok ER (sendCell k c) 0 0) ∗ (bigSep Finset.univ fun k : Fin 8 => dutyTok ER (recvCell k c) 0 0))

abbrev place (ck : Dev nD × Cel) : sProp 𝕄 := atPos ER (kcell ck) 0 ∅ 0

def G (c : Dev nD) : sProp 𝕄 :=
  iprop((bigSep Finset.univ fun k : Cel => roundState ER (Rd (part m ρ)) (kcell (c, k)) 0)
    ∗ (bigSep Finset.univ fun k : Cel => iprop(place (F := F) (c, k) ∗ reached ER (kcell (c, k)) 0)) ∗ toks (F := F) c)

def records (K : Dev nD × Cel → ℕ) : sProp 𝕄 :=
  bigSep Finset.univ fun ck => iprop(cellInv ER (Rd (part m ρ)) (K ck) (kcell ck) ∗ reached ER (kcell ck) 0)
instance records_persistent (K : Dev nD × Cel → ℕ) : BI.Persistent (records m ρ K) := by unfold records; infer_instance

/-- The rights device `c` uses. -/
def payToks (c : Dev nD) : sProp 𝕄 :=
  iprop((bigSep Finset.univ fun r : Fin 4 => dutyTok ER (barCell (peer r c)) 0 r)
    ∗ (bigSep Finset.univ fun k : Fin 8 => dutyTok ER (sendCell k c) 0 0) ∗ (bigSep Finset.univ fun k : Fin 8 => dutyTok ER (recvCell k (peer (bit k) c)) 0 0))

def linear (c : Dev nD) : sProp 𝕄 := iprop((bigSep Finset.univ fun k : Cel => place (F := F) (c, k)) ∗ payToks (F := F) c)
def G' (c : Dev nD) : sProp 𝕄 := iprop(∃ K, records m ρ K ∗ linear (F := F) c)

omit [FloatOps F] in
/-- A family over a device's cells, cell by cell. -/
theorem over_cells (Φ : Cel → sProp 𝕄) : bigSep Finset.univ Φ
    = iprop(Φ (.inl ()) ∗ (bigSep Finset.univ fun k : Fin 8 => Φ (.inr (false, k))) ∗ (bigSep Finset.univ fun k : Fin 8 => Φ (.inr (true, k)))) := by
  rw [BI.bigSep_univ_sum, BI.bigSep_univ_of_subsingleton (), BI.bigSep_univ_prod]
  rw [bigSep_univ_eq_bigSepL [false, true] (by decide) (by decide)]
  rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cel => Φ (kcell (c, k)) := by
    unfold allCells; rw [BI.bigSep_map, BI.bigSep_univ_prod]; rfl
  have hT : bigSep allToks (fun x => (dutyTok ER x.1 x.2.1 x.2.2 : sProp 𝕄)) = bigSep Finset.univ fun c : Dev nD => toks c := by
    unfold allToks; rw [BI.bigSep_map, BI.bigSep_univ_prod]
    refine bigSep_congr fun c _ => ?_
    unfold toks
    rw [BI.bigSep_univ_sum, BI.bigSep_univ_prod, bigSep_univ_eq_bigSepL [false, true] (by decide) (by decide)]
    rfl
  iintro HX
  imod (Rounds.fund ER (Rd (part m ρ)) allCells allToks) $$ HX with ⟨Hst, Hr, Hat, Htok⟩
  imodintro
  ihave Hst' := (Entails.of_eq (hX fun g => roundState ER (Rd (part m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 8 => semVal (sendCell k c) 0) ∗ (bigSep Finset.univ fun k : Fin 8 => semVal (recvCell k c) 0)) := by
  unfold Pipeline.ownSems0
  rw [BI.bigSep_univ_prod, bigSep_univ_eq_bigSepL [false, true] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (part m ρ)) κ (kcell (c, k))))
          ∗ (bigSep Finset.univ fun k => iprop(place (F := F) (c, k) ∗ reached ER (kcell (c, k)) 0)) ∗ toks (F := F) c) := by
  unfold G
  rw [ownSems0_eq, unscopedSems0_eq]
  iintro ⟨⟨HS, HV⟩, HB, Hst, Hat, Htok⟩
  ihave Hv := (show iprop(semVal (barCell c) 0 ∗ (bigSep Finset.univ fun k : Fin 8 => semVal (sendCell k c) 0) ∗ (bigSep Finset.univ fun k : Fin 8 => semVal (recvCell k c) 0))
      ⊢ (bigSep Finset.univ fun k : Cel => semVal (kcell (c, k)) 0 : sProp 𝕄) from Entails.of_eq (over_cells (F := F) fun k => semVal (kcell (c, k)) 0).symm) $$ [HB HS HV]
  · isplitl [HB]; · iexact HB
    isplitl [HS] <;> iassumption
  imod (show iprop((bigSep Finset.univ fun k : Cel => semVal (kcell (c, k)) 0) ∗ bigSep Finset.univ fun k : Cel => roundState ER (Rd (part m ρ)) (kcell (c, k)) 0)
      ⊢ (|={Set.univ}=> bigSep Finset.univ fun k => iprop(∃ κ : ℕ, cellInv ER (Rd (part m ρ)) κ (kcell (c, k))) : sProp 𝕄) from by
        rw [← bigSep_sep']
        exact (bigSep_mono fun k _ => (Rounds.body_intro ER (Rd (part m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Every right goes to the device that uses it: along each bit's exchange of peers. -/
theorem toks_around : (bigSep Finset.univ fun c : Dev nD => (toks c : sProp 𝕄)) ⊢ bigSep Finset.univ fun c : Dev nD => payToks c := by
  have swap {n : ℕ} (b : Fin n → Fin 4) (Φ : Fin n → Dev nD → sProp 𝕄) :
      (bigSep Finset.univ fun c : Dev nD => bigSep Finset.univ fun k => Φ k c) = bigSep Finset.univ fun c : Dev nD => bigSep Finset.univ fun k => Φ k (peer (b k) c) := by
    let e : Dev nD × Fin n ≃ Dev nD × Fin n :=
      { toFun := fun p => (peer (b p.2) p.1, p.2)
        invFun := fun p => (peer (b p.2) p.1, p.2)
        left_inv := fun p => by show (peer _ (peer _ p.1), p.2) = p; rw [peer_peer]
        right_inv := fun p => by show (peer _ (peer _ p.1), p.2) = p; rw [peer_peer] }
    rw [← BI.bigSep_univ_prod (fun p : Dev nD × Fin n => Φ p.2 p.1), BI.bigSep_univ_equiv e, BI.bigSep_univ_prod]
    rfl
  unfold toks payToks
  simp only [bigSep_sep']
  rw [swap (fun r : Fin 4 => r) fun r c => dutyTok ER (barCell c) 0 r, swap bit fun k c => dutyTok ER (recvCell k c) 0 0]

theorem regroup :
    (bigSep Finset.univ fun c : Dev nD => iprop((bigSep Finset.univ fun k => iprop(∃ κ : ℕ, cellInv ER (Rd (part m ρ)) κ (kcell (c, k))))
          ∗ (bigSep Finset.univ fun k => iprop(place (F := F) (c, k) ∗ reached ER (kcell (c, k)) 0)) ∗ toks (F := F) c) : sProp 𝕄)
      ⊢ bigSep Finset.univ (G' m ρ) := by
  rw [bigSep_sep', bigSep_sep', ← BI.bigSep_univ_prod (fun ck : Dev nD × Cel => iprop(∃ κ : ℕ, cellInv ER (Rd (part m ρ)) κ (kcell ck))),
    bigSep_congr (s := Finset.univ) (fun (c : Dev nD) _ => bigSep_sep' Finset.univ (fun k : Cel => place (F := F) (c, k)) (fun k => reached ER (kcell (c, k)) 0)),
    bigSep_sep', ← BI.bigSep_univ_prod (fun ck : Dev nD × Cel => (reached ER (kcell ck) 0 : sProp 𝕄))]
  iintro ⟨HI, ⟨Hat, #HR⟩, Htok⟩
  ihave HK := (BI.bigSep_exists_pi Finset.univ (fun (ck : Dev nD × Cel) (κ : ℕ) => (cellInv ER (Rd (part m ρ)) κ (kcell ck) : sProp 𝕄))) $$ HI
  icases HK with ⟨%K, #HI⟩
  ihave Htk := (toks_around (F := F)) $$ Htok
  iapply (BI.bigSep_with_persistent (R := records m ρ K) (Φ := linear (F := F)) (Ψ := G' m ρ) fun c _ => by
    unfold G'; iintro ⟨HR, HL⟩; iexists K; isplitl [HR] <;> iassumption)
  isplitr
  · unfold records; rw [bigSep_sep']; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit promised at launch -/

omit [FloatOps F] in
theorem barCell_eq {a b : Dev nD} : barCell a = barCell b ↔ a = b :=
  ⟨fun h => congrArg (fun g : GSem nD τ sig => g.1.1) h, fun h => h ▸ rfl⟩
omit [FloatOps F] in
theorem recvCell_eq {k k' : Fin 8} {a b : Dev nD} : recvCell k a = recvCell k' b ↔ k = k' ∧ a = b :=
  ⟨fun h => ⟨recvS_inj _ _ (SemLoc.dma.inj (congrArg Prod.snd h)), congrArg (fun g : GSem nD τ sig => g.1.1) h⟩, fun h => by rw [h.1, h.2]⟩
omit [FloatOps F] in
theorem bar_ne_recv (k : Fin 8) (a b : Dev nD) : barCell a ≠ recvCell k b := fun h => recv_ne_bar k (congrArg Prod.snd h).symm

omit [FloatOps F] in
theorem owed_bar (d c : Dev nD) : O₀ d (barCell c) () = (([0, 1, 2, 3] : List (Fin 4)).map fun r => if c = peer r d then 1 else 0).sum := by
  unfold O₀
  rw [pile_apply, show owedAll d (barCell c) () = 0 from Nat.eq_zero_of_not_pos fun h => by
    obtain ⟨k, -, e⟩ := owedFrom_pos h; exact bar_ne_recv _ _ _ e, Nat.zero_add]
  congr 1
  exact List.map_congr_left fun r _ => by rw [tallyAt_apply]; exact if_congr (by rw [barCell_eq]; simp) rfl rfl

omit [FloatOps F] in
theorem owed_recv (d c : Dev nD) (k : Fin 8) : O₀ d (recvCell k c) () = if d = peer (bit k) c then N k else 0 := by
  unfold O₀
  rw [pile_apply, show ((([0, 1, 2, 3] : List (Fin 4)).map fun r => owedB d r (recvCell k c) ()) = ([0, 1, 2, 3] : List (Fin 4)).map fun _ => 0) from
    List.map_congr_left fun r _ => by rw [tallyAt_apply, if_neg fun h => bar_ne_recv _ _ _ h.1.symm], pile_apply]
  rw [show ((([0, 1, 2, 3, 7, 6, 5, 4] : List (Fin 8)).map fun k' => owedK d k' (recvCell k c) ()))
      = ([0, 1, 2, 3, 7, 6, 5, 4] : List (Fin 8)).map fun k' => if k = k' then (if d = peer (bit k) c then N k else 0) else 0 from
    List.map_congr_left fun k' _ => by
      rw [tallyAt_apply, ← ite_and]
      by_cases hk : k = k'
      · subst hk
        refine if_congr ?_ rfl rfl
        rw [recvCell_eq]
        constructor
        · rintro ⟨⟨-, h⟩, -⟩; exact ⟨rfl, by rw [h, peer_peer]⟩
        · rintro ⟨-, h⟩; exact ⟨⟨rfl, by rw [h, peer_peer]⟩, rfl⟩
      · rw [if_neg fun h => hk (recvCell_eq.1 h.1).1, if_neg fun h => hk h.1]]
  generalize (if d = peer (bit k) c then N k else 0) = x
  fin_cases k <;> simp

omit [FloatOps F] in
theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

omit [FloatOps F] in
theorem launch_recv (k : Fin 8) (c : Dev nD) :
    tallyOn (recvCell k c) (launchCredit (Pipeline.owing O₀) 0 (recvCell k c)) = (tallyAt (recvCell k c) () (N k) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer (bit k) c) fun _ => N k,
    if_pos (Finset.mem_univ _)]

omit [FloatOps F] in
theorem creds (c : Dev nD) :
    (Pipeline.launchCred O₀ c : sProp 𝕄) ⊢ iprop(cred (tallyAt (barCell c) () 4) ∗ bigSep Finset.univ fun k : Fin 8 => cred (tallyAt (recvCell k c) () (N k))) := by
  unfold Pipeline.launchCred
  rw [bigSep_univ_at _ (SemLoc.reg barS), launch_bar]
  refine sep_mono_right ?_
  let e : Fin 8 ↪ SemLoc sig := ⟨fun k => .dma (recvS k), fun k k' h => recvS_inj k k' (SemLoc.dma.inj h)⟩
  refine (BI.bigSep_subset (t := Finset.univ.map e) fun x hx => ?_).trans ?_
  · obtain ⟨k, -, rfl⟩ := Finset.mem_map.1 hx
    exact Finset.mem_erase.mpr ⟨recv_ne_bar k, Finset.mem_univ _⟩
  · rw [BI.bigSep_map]
    exact bigSep_mono fun k _ => Entails.of_eq (congrArg cred (launch_recv k c))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linear payToks
  rw [over_cells]
  iintro ⟨-, Hlev, Hcr, -, ⟨%K, HR, ⟨HaB, HaS, HaR⟩, HtB, HtS, HtR⟩⟩
  ihave ⟨Hcb, Hck⟩ := (creds (F := F) c) $$ Hcr
  imodintro
  isplitl
  · unfold start ready env records
    iexists K
    isplitl [HR Hlev]
    · isplitl [HR]; · iexact HR
      iexact Hlev
    isplitl [HaS HaR HtS HtR Hck]
    · unfold ticket
      simp only [bigSep_sep']
      isplitl [HaS]; · iexact HaS
      isplitl [HaR]; · iexact HaR
      isplitl [HtS]; · iexact HtS
      isplitl [HtR]; · iexact HtR
      iexact Hck
    isplitl [HtB]; · iexact HtB
    isplitl [HaB]; · iexact HaB
    iexact Hcb
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ workPts
  iintro ⟨Hs, -, Hw, Hr⟩
  isplitl [Hs]; · iexact Hs
  isplitl [Hw] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finished (F := F) c from rfl, scopedRest0_eq, ownSems0_eq, unscopedSems0_eq]
  unfold finished closed
  rw [bigSep_sep']
  iintro ⟨⟨HS, HR⟩, HB, Hw, Hr⟩
  isplitl [HB]; · iexact HB
  isplitl [HS HR]
  · isplitl [HS] <;> iassumption
  isplitl [Hw] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by revert w s; decide)
    · exact mayWait_zero c _

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every fair run of the program from zero counters ends with every array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange
-- ==== Proof.KernelIdeal.Ends.lean ====
/- What the arrays hold when the program has run. -/
module

public import proofs.«01_k».proof.Proof.KernelIdeal.Launch

@[expose] public section

noncomputable section

namespace Cert.KernelIdeal.Exchange

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

theorem finalA_0 (c : Dev nD) : finalA m ρ c (0 : Fin 6) = m ((c : Thread nD τ).loc main_arg0) := (dats (F := F) m ρ 0 c).arrAt_in (0 : Fin 6) rfl _
theorem finalA_1 (c : Dev nD) : finalA m ρ c (1 : Fin 6) = m ((c : Thread nD τ).loc main_arg1) := (dats (F := F) m ρ 0 c).arrAt_in (1 : Fin 6) rfl _
theorem finalA_2 (c : Dev nD) : finalA m ρ c (2 : Fin 6) = m ((c : Thread nD τ).loc main_arg2) := (dats (F := F) m ρ 0 c).arrAt_in (2 : Fin 6) rfl _
theorem finalA_3 (c : Dev nD) : finalA m ρ c (3 : Fin 6) = m ((c : Thread nD τ).loc main_arg3) := (dats (F := F) m ρ 0 c).arrAt_in (3 : Fin 6) rfl _
theorem finalA_4 (c : Dev nD) : finalA m ρ c (4 : Fin 6) = m ((c : Thread nD τ).loc main_arg4) := (dats (F := F) m ρ 0 c).arrAt_in (4 : Fin 6) rfl _

attribute [local irreducible] outAt in
/-- The result array holds what the body left for it. -/
theorem finalA_out (c : Dev nD) : finalA m ρ c (5 : Fin 6) = outAt m ρ c := by
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  refine (hr _).symm.trans ?_
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The program runs to its end; its arguments are kept, its result is `outAt`, and its counters are back at zero. -/
theorem run : θ_run defs (onTc (τ := τ) (main (F := F))) (s₀ m ρ) (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans (finalA_out m ρ c), (h.1 c (0 : Fin 6)).trans (finalA_0 m ρ c),
    (h.1 c (1 : Fin 6)).trans (finalA_1 m ρ c), (h.1 c (2 : Fin 6)).trans (finalA_2 m ρ c), (h.1 c (3 : Fin 6)).trans (finalA_3 m ρ c),
    (h.1 c (4 : Fin 6)).trans (finalA_4 m ρ c)⟩, h.2⟩) (run_main m ρ)

end Cert.KernelIdeal.Exchange

end
-- ==== Proof.PreFacts.lean ====
/- The shape relations the precondition's own operations take. -/
module

public import proofs.«01_k».proof.Pre_finite_scores_KernelIdeal
public import proofs.«01_k».proof.Pre_finite_scores_ReferenceIdeal
public import Idealize.ShloMosaic.Lib.Decide

@[expose] public section

namespace Cert.Exchange.Pre

open Idealize.ShloMosaic

instance factsK : Cert.Pre_finite_scores_KernelIdeal.Facts where
  bcast_S_S2x128x512 := by decide
  reducesTo_S2x128x512_S_d0_1_2 := by decide
  h_S_ := by decide
  bcast_S_S512x512 := by decide
  reducesTo_S512x512_S_d0_1 := by decide
  bcast_S_S2x128x8x64 := by decide
  reducesTo_S2x128x8x64_S_d0_1_2_3 := by decide

instance factsR : Cert.Pre_finite_scores_ReferenceIdeal.Facts where
  bcast_S_S2x128x512 := by decide
  reducesTo_S2x128x512_S_d0_1_2 := by decide
  h_S_ := by decide
  bcast_S_S512x8192 := by decide
  reducesTo_S512x8192_S_d0_1 := by decide
  bcast_S_S2x128x128x64 := by decide
  reducesTo_S2x128x128x64_S_d0_1_2_3 := by decide

end Cert.Exchange.Pre

end
-- ==== Proof.KernelIdeal.AllSum.lean ====
/- After the eight rounds every device's working buffer holds the sum of what all the devices put in. -/
module

public import proofs.«01_k».proof.Proof.KernelIdeal.Round
public import Idealize.ShloMosaic.Lib.Pipeline.Value
public import Idealize.ShloMosaic.Lib.ValueIdx

@[expose] public section

noncomputable section

namespace Cert.KernelIdeal.Exchange

open Cert.KernelIdeal Cert.KernelIdeal.Gen

open Idealize.ShloMosaic Idealize.ShloMosaic.ValueIdx
open scoped BigOperators

variable (P : Dev nD → FVec Ideal S256x512 .f32)

/-- The other device of time `t`. -/
abbrev other (t : ℕ) (c : Dev nD) : Dev nD := peer (bit (kAt t)) c

/-- The rows device `c` changes at time `t`. -/
def changes (t : ℕ) (c : Dev nD) (r : ℕ) : Prop := src (kAt t) (other t c) ≤ r ∧ r < src (kAt t) (other t c) + len (kAt t)

instance (t : ℕ) (c : Dev nD) (r : ℕ) : Decidable (changes t c r) := by unfold changes; infer_instance

/-- One round, read at an element. -/
theorem W_apply (t : ℕ) (c : Dev nD) (r : Fin 256) (col : Fin 512) :
    W P (t + 1) c (ix2 r col) = if changes t c r.val then
        (if (kAt t).val < 4 then W P t c (ix2 r col) + W P t (other t c) (ix2 r col) else W P t (other t c) (ix2 r col))
      else W P t c (ix2 r col) := by
  have hw := View.write_whole_slice_unit (Val := Elt Ideal) cc0_scratch0 ![src (kAt t) (other t c), 0] (Sk (kAt t)).size (work_inb (src_le _ _))
    (W P t c) (combine (F := Ideal) (kAt t) ((workM.access (srcR (kAt t) (other t c))).read (Elt Ideal) (W P t c))
        ((workM.access (srcR (kAt t) (other t c))).read (Elt Ideal) (W P t (other t c))))
  refine (congrFun hw (ix2 r col)).trans ?_
  unfold updateSlice
  by_cases h : changes t c r.val
  · have hin : ∀ a : Fin 2, (![src (kAt t) (other t c), 0] : Fin 2 → ℕ) a ≤ ((ix2 r col : S256x512.Idx) a).val
        ∧ ((ix2 r col : S256x512.Idx) a).val < (![src (kAt t) (other t c), 0] : Fin 2 → ℕ) a + (Sk (kAt t)).size a :=
      fun | 0 => h | 1 => ⟨Nat.zero_le _, by show col.val < 0 + 512; omega⟩
    rw [if_pos h]
    refine (dif_pos hin).trans ?_
    have hread : ∀ f : FVec Ideal S256x512 .f32, ∀ x : (Sk (kAt t)).Idx, (∀ a : Fin 2, (![src (kAt t) (other t c), 0] : Fin 2 → ℕ) a + (x a).val = ((ix2 r col : S256x512.Idx) a).val) →
        (workM.access (srcR (kAt t) (other t c))).read (Elt Ideal) f x = f (ix2 r col) := fun f x hx =>
      congrArg f (funext fun a => Fin.ext (by
        show (![src (kAt t) (other t c), 0] : Fin 2 → ℕ) a + 1 * (x a).val = _
        rw [Nat.one_mul]; exact hx a))
    unfold combine
    by_cases hk : (kAt t).val < 4
    · rw [if_pos hk, if_pos hk]
      exact congrArg₂ (· + ·) (hread _ _ fun a => Nat.add_sub_cancel' (hin a).1) (hread _ _ fun a => Nat.add_sub_cancel' (hin a).1)
    · rw [if_neg hk, if_neg hk]
      exact hread _ _ fun a => Nat.add_sub_cancel' (hin a).1
  · rw [if_neg h]
    exact dif_neg fun hin => h (hin (0 : Fin 2))

/-- How often device `d`'s part is in row block `R` of device `c`'s buffer before the `t`-th round. -/
def count : ℕ → Dev nD → Fin 16 → Dev nD → ℕ
  | 0, c, _, d => if c = d then 1 else 0
  | t + 1, c, R, d => if changes t c (16 * R.val) then
      (if (kAt t).val < 4 then count t c R d + count t (other t c) R d else count t (other t c) R d)
    else count t c R d

theorem changes_block (t : Fin 8) (c : Dev nD) (r : ℕ) : changes t.val c r ↔ changes t.val c (16 * (r / 16)) := by
  have h : (∃ n, src (kAt t.val) (other t.val c) = 16 * n) ∧ ∃ n, len (kAt t.val) = 16 * n :=
    ⟨⟨src (kAt t.val) (other t.val c) / 16, by revert t c; decide +kernel⟩, ⟨len (kAt t.val) / 16, by revert t; decide +kernel⟩⟩
  obtain ⟨⟨n, hn⟩, ⟨n', hn'⟩⟩ := h
  unfold changes
  rw [hn, hn']
  omega

theorem W_count (c : Dev nD) (r : Fin 256) (col : Fin 512) (R : Fin 16) (hR : R.val = r.val / 16) (t : ℕ) (ht : t ≤ 8) :
    W P t c (ix2 r col) = ∑ d, count t c R d • P d (ix2 r col) := by
  induction t generalizing c with
  | zero =>
    rw [Finset.sum_eq_single c]
    · show P c _ = (if c = c then 1 else 0) • _
      rw [if_pos rfl, one_nsmul]
    · intro d _ hd
      show (if c = d then 1 else 0) • _ = _
      rw [if_neg (Ne.symm hd), zero_nsmul]
    · intro h; exact absurd (Finset.mem_univ c) h
  | succ t ih =>
    rw [W_apply, ih c (by omega), ih (other t c) (by omega)]
    have hb : changes t c r.val ↔ changes t c (16 * (r.val / 16)) := changes_block ⟨t, by omega⟩ c r.val
    have hcount : ∀ d, count (t + 1) c R d = if changes t c (16 * R.val) then
      (if (kAt t).val < 4 then count t c R d + count t (other t c) R d else count t (other t c) R d)
      else count t c R d := fun _ => rfl
    simp only [hcount]
    rw [hR]
    by_cases h : changes t c r.val
    · rw [if_pos h]
      simp only [if_pos (hb.1 h)]
      by_cases hk : (kAt t).val < 4
      · simp only [if_pos hk, add_nsmul, Finset.sum_add_distrib]
      · simp only [if_neg hk]
    · rw [if_neg h]
      simp only [if_neg fun h' => h (hb.2 h')]

theorem count_eq_one (c : Dev nD) (R : Fin 16) (d : Dev nD) : count 8 c R d = 1 := by revert c R d; decide +kernel

/-- At the end every buffer holds the sum over the devices. -/
theorem W_eight (c : Dev nD) (r : Fin 256) (col : Fin 512) : W P 8 c (ix2 r col) = ∑ d, P d (ix2 r col) := by
  rw [W_count P c r col ⟨r.val / 16, by omega⟩ rfl 8 (le_refl 8)]
  exact Finset.sum_congr rfl fun d _ => by rw [count_eq_one, one_nsmul]

end Cert.KernelIdeal.Exchange

end
-- ==== Proof.Attn.lean ====
/- One row of attention over the extended reals: dividing each weight by the weights' sum before they meet the values, or
   dividing the weighted sum afterwards, comes to the same when the scores are finite. -/
module

public import Idealize.ShloMosaic.PureOps.Ideal.Laws
public import Mathlib.Data.EReal.Inv

@[expose] public section

noncomputable section

namespace Cert.Exchange.Attn

open Idealize.ShloMosaic
open scoped BigOperators

/-- Neither infinity. -/
def Finite (x : EReal) : Prop := x ≠ ⊤ ∧ x ≠ ⊥

theorem finite_iff {x : EReal} : Finite x ↔ ∃ r : ℝ, x = (r : EReal) := by
  constructor
  · rintro ⟨h, h'⟩; exact ⟨x.toReal, (EReal.coe_toReal h h').symm⟩
  · rintro ⟨r, rfl⟩; exact ⟨EReal.coe_ne_top r, EReal.coe_ne_bot r⟩

theorem Finite.mul {x y : EReal} (hx : Finite x) (hy : Finite y) : Finite (x * y) := by
  obtain ⟨a, rfl⟩ := finite_iff.1 hx; obtain ⟨b, rfl⟩ := finite_iff.1 hy
  exact finite_iff.2 ⟨a * b, (EReal.coe_mul a b).symm⟩

theorem Finite.sum {ι : Type} (s : Finset ι) {f : ι → EReal} (h : ∀ i, Finite (f i)) : Finite (∑ i ∈ s, f i) := by
  classical
  induction s using Finset.induction_on with
  | empty => exact finite_iff.2 ⟨0, by simp⟩
  | insert a s ha ih =>
    rw [Finset.sum_insert ha]
    obtain ⟨a, ha⟩ := finite_iff.1 (h a); obtain ⟨b, hb⟩ := finite_iff.1 ih
    rw [ha, hb]; exact finite_iff.2 ⟨a + b, (EReal.coe_add a b).symm⟩

/-- The greatest score of a row. -/
def top {n : ℕ} (s : Fin n → EReal) : EReal := Finset.univ.fold max ⊥ s

theorem top_finite {n : ℕ} (hn : 0 < n) {s : Fin n → EReal} (h : ∀ j, Finite (s j)) : Finite (top s) := by
  have hs : top s = Finset.univ.sup s := rfl
  haveI : Nonempty (Fin n) := ⟨⟨0, hn⟩⟩
  obtain ⟨j, -, hj⟩ := Finset.exists_mem_eq_sup Finset.univ Finset.univ_nonempty s
  rw [hs, hj]; exact h j

/-- A row's weight: the exponential of how far the score is below the greatest. -/
def wt {n : ℕ} (s : Fin n → EReal) (j : Fin n) : EReal := Ideal.exp (s j - top s)

theorem wt_real {n : ℕ} (hn : 0 < n) {s : Fin n → EReal} (h : ∀ j, Finite (s j)) :
    ∃ r : Fin n → ℝ, (∀ j, 0 < r j) ∧ ∀ j, wt s j = (r j : EReal) := by
  obtain ⟨M, hM⟩ := finite_iff.1 (top_finite hn h)
  choose a ha using fun j => finite_iff.1 (h j)
  refine ⟨fun j => Real.exp (a j - M), fun j => Real.exp_pos _, fun j => ?_⟩
  unfold wt
  rw [hM, ha j, ← EReal.coe_sub]; rfl

/-- The row as the kernel computes it: weights over their sum, then the sum against the values. -/
def attnK {n : ℕ} (s v : Fin n → EReal) : EReal := ∑ j, Ideal.div (wt s j) (∑ j', wt s j') * v j

/-- The row as the reference computes it: the sum of values by weights, over the weights' sum. -/
def attnR {n : ℕ} (s v : Fin n → EReal) : EReal := Ideal.div (∑ j, v j * wt s j) (∑ j', wt s j')

/-- Multiplying by a real number at least zero goes through sums. -/
def mulHom (L : ℝ) (hL : 0 ≤ L) : EReal →+ EReal where
  toFun x := x * (L : EReal)
  map_zero' := zero_mul _
  map_add' x y := EReal.right_distrib_of_nonneg_of_ne_top (EReal.coe_nonneg.2 hL) (EReal.coe_ne_top L) x y

theorem attn_eq {n : ℕ} (hn : 0 < n) (s v : Fin n → EReal) (h : ∀ j, Finite (s j)) : attnK s v = attnR s v := by
  obtain ⟨r, hr, hw⟩ := wt_real hn h
  haveI : Nonempty (Fin n) := ⟨⟨0, hn⟩⟩
  have hsum : (∑ j', wt s j') = ((∑ j, r j : ℝ) : EReal) := by
    rw [Finset.sum_congr rfl fun j _ => hw j]
    exact (map_sum (⟨⟨((↑) : ℝ → EReal), EReal.coe_zero⟩, EReal.coe_add⟩ : ℝ →+ EReal) r Finset.univ).symm
  have hpos : 0 < ∑ j, r j := Finset.sum_pos (fun j _ => hr j) Finset.univ_nonempty
  have hne : ((∑ j, r j : ℝ) : EReal) ≠ 0 := by
    intro h0; exact hpos.ne' (EReal.coe_eq_zero.1 h0)
  have hdiv : ∀ x : EReal, Ideal.div x (∑ j', wt s j') = mulHom (∑ j, r j)⁻¹ (inv_nonneg.2 hpos.le) x := fun x => by
    unfold Ideal.div
    rw [hsum, if_neg hne, ← EReal.coe_inv]; rfl
  unfold attnK attnR
  simp only [hdiv]
  rw [map_sum]
  refine Finset.sum_congr rfl fun j _ => ?_
  show wt s j * _ * v j = v j * wt s j * _
  rw [mul_comm (v j), mul_right_comm]

end Cert.Exchange.Attn

end
-- ==== Proof.KernelIdeal.Heads.lean ====
/- What one device puts into its working buffer, element by element: its eight heads of attention times its slice of the
   output projection. -/
module

public import proofs.«01_k».proof.Proof.KernelIdeal.Enter
public import proofs.«01_k».proof.Proof.Attn
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.KernelIdeal.Exchange

open Cert.KernelIdeal Cert.KernelIdeal.Gen

open Idealize.ShloMosaic Idealize.ShloMosaic.ValueIdx
open scoped BigOperators

section Shape

variable {F : FTy → Type} [FloatOps F]

theorem pick_slices (b : Fin 2) (h : Fin 8) : S2x128x8x64.Slices ![b.val, 0, h.val, 0] S1x128x1x64 := by revert b h; decide

/-- Batch `b`, head `h` of a 2x128x8x64 array, as a matrix. -/
def pick (b : Fin 2) (h : Fin 8) (X : FVec F S2x128x8x64 .f32) : FVec F S128x64 .f32 :=
  shapeCast S128x64 (extractStridedSlice S1x128x1x64 ![b.val, 0, h.val, 0] X (pick_slices b h)) shapeCasts_S1x128x1x64_S128x64

/-- The scaled scores of one head. -/
def scores (q k : FVec F S128x64 .f32) : FVec F S128x128 .f32 :=
  mulf (matmul dot_S128x64_S64x128_S128x128_1_0_0_1_n_n none q (transpose S64x128 [1, 0] k transposes_S128x64_p1_0_S64x128)
    (constant S128x128 .f32 0x00000000#32)) (broadcast S128x128 (Scalar.ofBits .f32 0x3E000000#32))

/-- The exponentials of the scores less their row's largest. -/
def weights (s : FVec F S128x128 .f32) : FVec F S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))

/-- The weights over their row's sum. -/
def shares (w : FVec F S128x128 .f32) : FVec F S128x128 .f32 :=
  divf w (broadcastTo S128x128 (shapeCast S128x1 (multiReduction .add [1] S128 w 0x00000000#32 reduces_S128x128_S128 (.inl rfl) rfl)
    shapeCasts_S128_S128x1) broadcasts_S128x1_S128x128)

/-- Batch `b`, head `h` of the attention. -/
def headOf (X Y Z : FVec F S2x128x8x64 .f32) (b : Fin 2) (h : Fin 8) : FVec F S128x64 .f32 :=
  matmul dot_S128x128_S128x64_S128x64_1_0_0_1_n_n none (shares (weights (scores (pick b h X) (pick b h Y)))) (pick b h Z)
    (constant S128x64 .f32 0x00000000#32)

/-- A batch's heads side by side. -/
def sideBySide (f : Fin 8 → FVec F S128x64 .f32) : FVec F S128x512 .f32 :=
  concatenate S128x512 1 (List.ofFn fun h : Fin 8 => (⟨S128x64, f h⟩ : (s : Idealize.ShloMosaic.Shape) × (s.Idx → F .f32)))
    concatenates_S128x64_S128x64_S128x64_S128x64_S128x64_S128x64_S128x64_S128x64_S128x512_d1

/-- The two batches stacked. -/
def stacked (f : Fin 2 → FVec F S128x512 .f32) : FVec F S256x512 .f32 :=
  concatenate S256x512 0 (List.ofFn fun b : Fin 2 => (⟨S128x512, f b⟩ : (s : Idealize.ShloMosaic.Shape) × (s.Idx → F .f32)))
    concatenates_S128x512_S128x512_S256x512_d0

theorem partialOf_eq (x : FVec F S2x128x512 .f32) (wq wo : FVec F S512x512 .f32) (kk vv : FVec F S2x128x8x64 .f32) :
    partialOf x wq wo kk vv = shapeCast S256x512 (matmul dot_S256x512_S512x512_S256x512_1_0_0_1_n_n none
      (stacked fun b => sideBySide fun h => headOf (k0_pay2 x wq) (k0_pay3 kk) (k0_pay4 vv) b h)
      (shapeCast S512x512 wo shapeCasts_S512x512_S512x512) (constant S256x512 .f32 0x00000000#32)) shapeCasts_S256x512_S256x512 := rfl

end Shape

/-! ## Read at an element -/

/-- The scale of the scores, one eighth. -/
def eighth : EReal := Ideal.ofBits .f32 0x3E000000#32

variable (X Y Z : FVec Ideal S2x128x8x64 .f32)

theorem pick_apply (b : Fin 2) (h : Fin 8) (i : Fin 128) (d : Fin 64) : pick b h X (ix2 i d) = X (ix4 b i h d) := by
  unfold pick
  rw [shapeCast_apply _ _ _ (ix4 (0 : Fin 1) i (0 : Fin 1) d) (by
    rw [Shape.rowMajor_val_two, Shape.rowMajor_val_four]
    show ((0 * 128 + i.val) * 1 + 0) * 64 + d.val = i.val * 64 + d.val
    omega)]
  exact extractStridedSlice_apply _ _ _ _ _ fun
    | 0 => rfl
    | 1 => (Nat.zero_add _).symm
    | 2 => rfl
    | 3 => (Nat.zero_add _).symm

theorem scores_apply (q k : FVec Ideal S128x64 .f32) (i j : Fin 128) :
    scores q k (ix2 i j) = (∑ d : Fin 64, q (ix2 i d) * k (ix2 j d)) * eighth := by
  unfold scores
  rw [mulf_apply]
  refine congrArg (· * eighth) ?_
  refine (Ideal.matmul_plain_apply none q _ _ i j).trans ?_
  rw [show constant (F := Ideal) S128x128 .f32 0x00000000#32 (ix2 i j) = 0 from Ideal.ofBits_zero_f32, zero_add]
  exact Finset.sum_congr rfl fun d _ => congrArg (q (ix2 i d) * ·) (transpose_ix2_apply k _ d j)

theorem spread_apply (u : FVec Ideal S128 .f32) (i j : Fin 128) :
    broadcastTo S128x128 (shapeCast S128x1 u shapeCasts_S128_S128x1) broadcasts_S128x1_S128x128 (ix2 i j) = u (ix1 i) := by
  rw [broadcastTo_apply _ _ _ (ix2 i (0 : Fin 1)) fun
    | 0 => rfl
    | 1 => rfl]
  exact shapeCast_a_a1_apply u _ i 0

theorem row_lift (i : Fin 128) (j : Fin 128) : reduces_S128x128_S128.lift (ix1 i) j = (ix2 i j : S128x128.Idx) :=
  funext fun
    | 0 => rfl
    | 1 => rfl

theorem weights_apply (s : FVec Ideal S128x128 .f32) (i j : Fin 128) :
    weights s (ix2 i j) = Cert.Exchange.Attn.wt (fun j' => s (ix2 i j')) j := by
  unfold weights Cert.Exchange.Attn.wt Cert.Exchange.Attn.top
  show Ideal.exp (s (ix2 i j) - broadcastTo S128x128 _ _ (ix2 i j)) = _
  rw [spread_apply]
  refine congrArg (fun m => Ideal.exp (s (ix2 i j) - m)) ((Ideal.multiReduction_maximumf_single s _ _ _ _ (ix1 i)).trans ?_)
  rw [show FloatOps.ofBits (F := Ideal) .f32 0xFF800000#32 = (⊥ : EReal) from by
    show Ideal.ofBits .f32 0xFF800000#32 = ⊥
    simp [Ideal.ofBits, Ideal.ieee]]
  exact congrArg (Finset.univ.fold max ⊥) (funext fun j' => congrArg s (row_lift i j'))

theorem shares_apply (w : FVec Ideal S128x128 .f32) (i j : Fin 128) :
    shares w (ix2 i j) = Ideal.div (w (ix2 i j)) (∑ j' : Fin 128, w (ix2 i j')) := by
  unfold shares
  rw [divf_apply, spread_apply]
  refine congrArg (Ideal.div _) ((Ideal.multiReduction_add_single w _ _ _ _ (ix1 i)).trans ?_)
  exact (Finset.sum_congr rfl fun j' _ => congrArg w (row_lift i j'))

theorem headOf_apply (b : Fin 2) (h : Fin 8) (i : Fin 128) (d : Fin 64) :
    headOf X Y Z b h (ix2 i d) = Cert.Exchange.Attn.attnK
      (fun j => (∑ d' : Fin 64, X (ix4 b i h d') * Y (ix4 b j h d')) * eighth) (fun j => Z (ix4 b j h d)) := by
  unfold headOf Cert.Exchange.Attn.attnK
  refine (Ideal.matmul_plain_apply none _ _ _ i d).trans ?_
  rw [show constant (F := Ideal) S128x64 .f32 0x00000000#32 (ix2 i d) = 0 from Ideal.ofBits_zero_f32, zero_add]
  refine Finset.sum_congr rfl fun j _ => ?_
  rw [shares_apply, pick_apply]
  simp only [weights_apply, scores_apply, pick_apply]

theorem sideBySide_apply (f : Fin 8 → FVec Ideal S128x64 .f32) (i : Fin 128) (h : Fin 8) (d : Fin 64) (e : Fin 512)
    (he : e.val = h.val * 64 + d.val) : sideBySide f (ix2 i e) = f h (ix2 i d) :=
  concatenate_ofFn_apply (t := S128x512) (s₁ := S128x64) (1 : Fin 2) f _ rfl 64 rfl (ix2 i e) h (by show e.val / 64 = h.val; omega) (ix2 i d)
    (by show d.val = e.val % 64; omega) fun
    | 0, _ => rfl
    | 1, hb => absurd rfl hb

theorem stacked_apply (f : Fin 2 → FVec Ideal S128x512 .f32) (b : Fin 2) (i : Fin 128) (e : Fin 512) (r : Fin 256)
    (hr : r.val = b.val * 128 + i.val) : stacked f (ix2 r e) = f b (ix2 i e) :=
  concatenate_ofFn_apply (t := S256x512) (s₁ := S128x512) (0 : Fin 2) f _ rfl 128 rfl (ix2 r e) b (by show r.val / 128 = b.val; omega) (ix2 i e)
    (by show i.val = r.val % 128; omega) fun
    | 0, hb => absurd rfl hb
    | 1, _ => rfl

theorem query_apply (x : FVec Ideal S2x128x512 .f32) (wq : FVec Ideal S512x512 .f32) (b : Fin 2) (i : Fin 128) (h : Fin 8) (d : Fin 64)
    (e : Fin 512) (he : e.val = h.val * 64 + d.val) :
    k0_pay2 x wq (ix4 b i h d) = ∑ k : Fin 512, x (ix3 b i k) * wq (ix2 k e) := by
  have hr : b.val * 128 + i.val < 256 := by omega
  unfold k0_pay2
  rw [shapeCast_self, shapeCast_self, shapeCast_apply _ _ _ (ix2 (⟨b.val * 128 + i.val, hr⟩ : Fin 256) e) (by
    rw [Shape.rowMajor_val_two, Shape.rowMajor_val_four]
    show (b.val * 128 + i.val) * 512 + e.val = ((b.val * 128 + i.val) * 8 + h.val) * 64 + d.val
    omega)]
  refine (Ideal.matmul_plain_apply none _ _ _ _ e).trans ?_
  rw [show constant (F := Ideal) S256x512 .f32 0x00000000#32 (ix2 (⟨b.val * 128 + i.val, hr⟩ : Fin 256) e) = 0 from Ideal.ofBits_zero_f32, zero_add]
  refine Finset.sum_congr rfl fun k _ => congrArg (· * wq (ix2 k e)) ?_
  exact shapeCast_apply _ _ _ _ (by
    rw [Shape.rowMajor_val_two, Shape.rowMajor_val_three]
    rfl)

/-- One device's part at an element. -/
theorem partialOf_apply (x : FVec Ideal S2x128x512 .f32) (wq wo : FVec Ideal S512x512 .f32) (kk vv : FVec Ideal S2x128x8x64 .f32)
    (b : Fin 2) (i : Fin 128) (n : Fin 512) (r : Fin 256) (hr : r.val = b.val * 128 + i.val) :
    partialOf x wq wo kk vv (ix2 r n) = ∑ hd : Fin 8 × Fin 64, Cert.Exchange.Attn.attnK
      (fun j => (∑ d' : Fin 64, (∑ k : Fin 512, x (ix3 b i k) * wq (ix2 k (finProdFinEquiv (hd.1, d')))) * kk (ix4 b j hd.1 d')) * eighth)
      (fun j => vv (ix4 b j hd.1 hd.2)) * wo (ix2 (finProdFinEquiv hd) n) := by
  have hval : ∀ p : Fin 8 × Fin 64, (finProdFinEquiv p : Fin (8 * 64)).val = p.1.val * 64 + p.2.val := fun p => by
    show p.2.val + 64 * p.1.val = _
    omega
  rw [partialOf_eq, shapeCast_self, shapeCast_self]
  refine (Ideal.matmul_plain_apply none _ _ _ r n).trans ?_
  rw [show constant (F := Ideal) S256x512 .f32 0x00000000#32 (ix2 r n) = 0 from Ideal.ofBits_zero_f32, zero_add,
    ← Equiv.sum_comp (finProdFinEquiv : Fin 8 × Fin 64 ≃ Fin 512)]
  refine Finset.sum_congr rfl fun hd _ => congrArg (· * wo (ix2 (finProdFinEquiv hd) n)) ?_
  rw [stacked_apply _ b i _ r hr, sideBySide_apply _ i hd.1 hd.2 _ (hval hd), headOf_apply]
  have hK : k0_pay3 kk = kk := shapeCast_self _ _
  have hV : k0_pay4 vv = vv := shapeCast_self _ _
  rw [hK, hV]
  refine congrArg (fun s => Cert.Exchange.Attn.attnK s _) (funext fun j => congrArg (· * eighth) (Finset.sum_congr rfl fun d' _ => ?_))
  rw [query_apply x wq b i hd.1 d' _ (hval (hd.1, d'))]

end Cert.KernelIdeal.Exchange

end
-- ==== Proof.ReferenceIdeal.Values.lean ====
/- The reference's result, element by element: over all the heads, attention times the output projection. -/
module

public import proofs.«01_k».proof.Proof.Gen.ReferenceIdeal.Run
public import proofs.«01_k».proof.Proof.Attn
public import Idealize.ShloMosaic.Lib.Pipeline.Value
public import Idealize.ShloMosaic.Lib.ValueIdx
public import Idealize.ShloMosaic.Lib.IdealHost
public import Idealize.ShloMosaic.Lib.KernelVsHost

@[expose] public section

noncomputable section

namespace Cert.ReferenceIdeal.Exchange

open Cert.ReferenceIdeal Cert.ReferenceIdeal.Gen

open Idealize.ShloMosaic Idealize.ShloMosaic.ValueIdx Idealize.ShloMosaic.TcCoe
open scoped BigOperators

section Shape

variable {F : FTy → Type} [FloatOps F]

/-- The queries, cut into heads. -/
def query (x : FVec F S2x128x512 .f32) (wq : FVec F S512x8192 .f32) : FVec F S2x128x128x64 .f32 :=
  shapeCast S2x128x128x64 (Host.dotGeneral dot_S2x128x512_S512x8192_S2x128x8192_2_0_01_1_n_n none x wq) shapeCasts_S2x128x8192_S2x128x128x64

/-- The scaled scores. -/
def scores (q kk : FVec F S2x128x128x64 .f32) : FVec F S2x128x128x128 .f32 :=
  mulf (Host.dotGeneral dot_S2x128x128x64_S2x128x128x64_S2x128x128x128_3_3_1_1_02_02 none q kk)
    (broadcastInDim S2x128x128x128 ![] bcast_S_S2x128x128x128 (constant S_ .f32 0x3E000000#32))

/-- The largest score of each row, against the running maximum's start. -/
def tops (s : FVec F S2x128x128x128 .f32) : FVec F S2x128x128x1 .f32 :=
  maximumf (broadcastInDim S2x128x128x1 ![] bcast_S_S2x128x128x1 (constant S_ .f32 0xFF800000#32))
    (broadcastInDim S2x128x128x1 ![0, 1, 2] bcast_S2x128x128_S2x128x128x1_0_1_2
      (Host.reduce FloatOps.maximumf s (constant S_ .f32 0xFF800000#32) reducesTo_S2x128x128x128_S2x128x128_d3 h_S_))

/-- The exponentials of the scores less their row's largest. -/
def weights (s : FVec F S2x128x128x128 .f32) : FVec F S2x128x128x128 .f32 :=
  Host.exp (subf s (broadcastInDim S2x128x128x128 ![0, 1, 2, 3] bcast_S2x128x128x1_S2x128x128x128_0_1_2_3 (tops s)))

/-- What the running sums so far are scaled by. -/
def rescale (s : FVec F S2x128x128x128 .f32) : FVec F S2x128x128x1 .f32 :=
  Host.exp (subf (broadcastInDim S2x128x128x1 ![] bcast_S_S2x128x128x1 (constant S_ .f32 0xFF800000#32)) (tops s))

/-- The sum of each row's weights. -/
def totals (s : FVec F S2x128x128x128 .f32) : FVec F S2x128x128x1 .f32 :=
  addf (mulf (broadcastInDim S2x128x128x1 ![] bcast_S_S2x128x128x1 (constant S_ .f32 0x00000000#32)) (rescale s))
    (broadcastInDim S2x128x128x1 ![0, 1, 2] bcast_S2x128x128_S2x128x128x1_0_1_2
      (Host.reduceAdd (weights s) (constant S_ .f32 0x00000000#32) reducesTo_S2x128x128x128_S2x128x128_d3 h_S_))

/-- The weighted sum of the values. -/
def weighted (s : FVec F S2x128x128x128 .f32) (vv : FVec F S2x128x128x64 .f32) : FVec F S2x128x128x64 .f32 :=
  addf (mulf (broadcastInDim S2x128x128x64 ![] bcast_S_S2x128x128x64 (constant S_ .f32 0x00000000#32))
      (broadcastInDim S2x128x128x64 ![0, 1, 2, 3] bcast_S2x128x128x1_S2x128x128x64_0_1_2_3
        (transpose S2x128x128x1 [0, 2, 1, 3] (rescale s) transposes_S2x128x128x1_S2x128x128x1_0_2_1_3)))
    (transpose S2x128x128x64 [0, 3, 1, 2] (Host.dotGeneral dot_S2x128x128x64_S2x128x128x128_S2x128x64x128_1_3_3_2_02_01 none vv (weights s))
      transposes_S2x128x64x128_S2x128x128x64_0_3_1_2)

/-- Attention. -/
def attended (s : FVec F S2x128x128x128 .f32) (vv : FVec F S2x128x128x64 .f32) : FVec F S2x128x128x64 .f32 :=
  Host.divf (weighted s vv) (broadcastInDim S2x128x128x64 ![0, 1, 2, 3] bcast_S2x128x128x1_S2x128x128x64_0_1_2_3
    (transpose S2x128x128x1 [0, 2, 1, 3] (totals s) transposes_S2x128x128x1_S2x128x128x1_0_2_1_3))

/-- The result as a function of the five arguments. -/
def result (x : FVec F S2x128x512 .f32) (wq : FVec F S512x8192 .f32) (wo : FVec F S8192x512 .f32) (kk vv : FVec F S2x128x128x64 .f32) :
    FVec F S2x128x512 .f32 :=
  Host.dotGeneral dot_S2x128x8192_S8192x512_S2x128x512_2_0_01_1_n_n none
    (shapeCast S2x128x8192 (attended (scores (query x wq) kk) vv) shapeCasts_S2x128x128x64_S2x128x8192) wo

theorem out_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Shape

/-! ## Read at an element -/

/-- The scale of the scores, one eighth. -/
def eighth : EReal := Ideal.ofBits .f32 0x3E000000#32

/-- A product contracted over one axis is the sum, over that axis, of the products of the elements it pairs. -/
theorem dot_apply {sl sr so : Idealize.ShloMosaic.Shape} (D : DotDims sl sr so) (n : ℕ) (hr : D.contr.rank = 1) (hs : D.contr.size ⟨0, by omega⟩ = n)
    (A : FVec Ideal sl .f32) (B : FVec Ideal sr .f32) (j : so.Idx) (L : Fin n → sl.Idx) (R : Fin n → sr.Idx)
    (hL : ∀ k a, (D.lhsIdx j ((contrEquiv1 D n hr hs).symm k) a).val = (L k a).val)
    (hR : ∀ k a, (D.rhsIdx j ((contrEquiv1 D n hr hs).symm k) a).val = (R k a).val) :
    Host.dotGeneral D none A B j = ∑ k, A (L k) * B (R k) := by
  show FloatOps.dotGeneral _ none _ A B j = _
  rw [Ideal.dotGeneral_apply, ← Equiv.sum_comp (contrEquiv1 D n hr hs).symm]
  exact Finset.sum_congr rfl fun k _ => by
    rw [show D.lhsIdx j _ = L k from funext fun a => Fin.ext (hL k a), show D.rhsIdx j _ = R k from funext fun a => Fin.ext (hR k a)]

theorem query_apply (x : FVec Ideal S2x128x512 .f32) (wq : FVec Ideal S512x8192 .f32) (b : Fin 2) (i h : Fin 128) (d : Fin 64) (e : Fin 8192)
    (he : e.val = h.val * 64 + d.val) : query x wq (ix4 b i h d) = ∑ k : Fin 512, x (ix3 b i k) * wq (ix2 k e) := by
  unfold query
  rw [shapeCast_apply _ _ _ (ix3 b i e) (by
    rw [Shape.rowMajor_val_three, Shape.rowMajor_val_four]
    show (b.val * 128 + i.val) * 8192 + e.val = ((b.val * 128 + i.val) * 128 + h.val) * 64 + d.val
    omega)]
  have hk := fun k => contrEquiv1_symm_val dot_S2x128x512_S512x8192_S2x128x8192_2_0_01_1_n_n 512 rfl rfl k
  exact dot_apply _ 512 rfl rfl x wq _ (fun k => ix3 b i k) (fun k => ix2 k e)
    (fun k => fun | 0 => rfl | 1 => rfl | 2 => hk k) (fun k => fun | 0 => hk k | 1 => rfl)

theorem scores_apply (q kk : FVec Ideal S2x128x128x64 .f32) (b : Fin 2) (h i j : Fin 128) :
    scores q kk (ix4 b h i j) = (∑ d : Fin 64, q (ix4 b i h d) * kk (ix4 b j h d)) * eighth := by
  unfold scores
  rw [mulf_apply]
  have hk := fun k => contrEquiv1_symm_val dot_S2x128x128x64_S2x128x128x64_S2x128x128x128_3_3_1_1_02_02 64 rfl rfl k
  refine congrArg₂ (· * ·) ?_ (broadcastInDim_scalar_apply _ _ _)
  exact dot_apply _ 64 rfl rfl q kk _ (fun d => ix4 b i h d) (fun d => ix4 b j h d)
    (fun k => fun | 0 => rfl | 1 => rfl | 2 => rfl | 3 => hk k) (fun k => fun | 0 => rfl | 1 => rfl | 2 => rfl | 3 => hk k)

variable (s : FVec Ideal S2x128x128x128 .f32)

theorem last_reduces : S2x128x128x128.Reduces [3] S2x128x128 := by decide

theorem last_lift (b : Fin 2) (h i j : Fin 128) : last_reduces.lift (ix3 b h i) j = (ix4 b h i j : S2x128x128x128.Idx) :=
  funext fun
    | 0 => rfl
    | 1 => rfl
    | 2 => rfl
    | 3 => rfl

theorem low : Ideal.ofBits .f32 0xFF800000#32 = (⊥ : EReal) := by simp [Ideal.ofBits, Ideal.ieee]

theorem tops_apply (b : Fin 2) (h i : Fin 128) (u : Fin 1) :
    tops s (ix4 b h i u) = Cert.Exchange.Attn.top (fun j => s (ix4 b h i j)) := by
  unfold tops Cert.Exchange.Attn.top
  rw [maximumf_apply, broadcastInDim_scalar_apply, constant_apply, low, max_eq_right bot_le,
    broadcastInDim_apply _ _ _ _ (ix3 b h i) fun
      | 0 => rfl
      | 1 => rfl
      | 2 => rfl]
  rw [hostReduce_maximumf_eq_multiReduction s 0xFF800000#32 _ _ last_reduces (.inl rfl) rfl]
  refine (Ideal.multiReduction_maximumf_single s _ _ _ _ _).trans ?_
  rw [show FloatOps.ofBits (F := Ideal) .f32 0xFF800000#32 = (⊥ : EReal) from low]
  exact congrArg (Finset.univ.fold max ⊥) (funext fun j => congrArg s (last_lift b h i j))

theorem weights_apply (b : Fin 2) (h i j : Fin 128) :
    weights s (ix4 b h i j) = Cert.Exchange.Attn.wt (fun j' => s (ix4 b h i j')) j := by
  unfold weights Cert.Exchange.Attn.wt
  show Ideal.exp (s (ix4 b h i j) - broadcastInDim _ _ _ _ (ix4 b h i j)) = _
  rw [broadcastInDim_apply _ _ _ _ (ix4 b h i (0 : Fin 1)) fun
      | 0 => rfl
      | 1 => rfl
      | 2 => rfl
      | 3 => rfl, tops_apply]

theorem totals_apply (b : Fin 2) (h i : Fin 128) (u : Fin 1) :
    totals s (ix4 b h i u) = ∑ j : Fin 128, Cert.Exchange.Attn.wt (fun j' => s (ix4 b h i j')) j := by
  unfold totals
  rw [addf_apply, mulf_apply, broadcastInDim_scalar_apply, constant_apply, Ideal.ofBits_zero_f32, zero_mul, zero_add,
    broadcastInDim_apply _ _ _ _ (ix3 b h i) fun
      | 0 => rfl
      | 1 => rfl
      | 2 => rfl, hostReduceAdd_apply, Ideal.hostReduceAdd_single _ last_reduces, constant_apply, Ideal.ofBits_zero_f32, zero_add]
  exact Finset.sum_congr rfl fun j _ => (congrArg (weights s) (last_lift b h i j)).trans (weights_apply s b h i j)

theorem weighted_apply (vv : FVec Ideal S2x128x128x64 .f32) (b : Fin 2) (i h : Fin 128) (d : Fin 64) :
    weighted s vv (ix4 b i h d) = ∑ j : Fin 128, vv (ix4 b j h d) * Cert.Exchange.Attn.wt (fun j' => s (ix4 b h i j')) j := by
  unfold weighted
  rw [addf_apply, mulf_apply, broadcastInDim_scalar_apply, constant_apply, Ideal.ofBits_zero_f32, zero_mul, zero_add,
    transpose_apply (s := S2x128x64x128) (t := S2x128x128x64) _ _ _ _ (ix4 b h d i) fun
      | 0 => rfl
      | 1 => rfl
      | 2 => rfl
      | 3 => rfl]
  have hk := fun k => contrEquiv1_symm_val dot_S2x128x128x64_S2x128x128x128_S2x128x64x128_1_3_3_2_02_01 128 rfl rfl k
  refine (dot_apply dot_S2x128x128x64_S2x128x128x128_S2x128x64x128_1_3_3_2_02_01 128 rfl rfl vv (weights s) (ix4 b h d i) (fun j => ix4 b j h d) (fun j => ix4 b h i j)
    (fun k => fun | 0 => rfl | 1 => hk k | 2 => rfl | 3 => rfl) (fun k => fun | 0 => rfl | 1 => rfl | 2 => rfl | 3 => hk k)).trans ?_
  exact Finset.sum_congr rfl fun j _ => by rw [weights_apply]

theorem attended_apply (vv : FVec Ideal S2x128x128x64 .f32) (b : Fin 2) (i h : Fin 128) (d : Fin 64) :
    attended s vv (ix4 b i h d) = Cert.Exchange.Attn.attnR (fun j => s (ix4 b h i j)) (fun j => vv (ix4 b j h d)) := by
  unfold attended Cert.Exchange.Attn.attnR
  rw [hostDivf_apply, weighted_apply, broadcastInDim_apply _ _ _ _ (ix4 b i h (0 : Fin 1)) fun
      | 0 => rfl
      | 1 => rfl
      | 2 => rfl
      | 3 => rfl, transpose_apply (s := S2x128x128x1) (t := S2x128x128x1) _ _ _ _ (ix4 b h i (0 : Fin 1)) fun
      | 0 => rfl
      | 1 => rfl
      | 2 => rfl
      | 3 => rfl, totals_apply]

/-- The result at an element. -/
theorem result_apply (x : FVec Ideal S2x128x512 .f32) (wq : FVec Ideal S512x8192 .f32) (wo : FVec Ideal S8192x512 .f32)
    (kk vv : FVec Ideal S2x128x128x64 .f32) (b : Fin 2) (i : Fin 128) (n : Fin 512) :
    result x wq wo kk vv (ix3 b i n) = ∑ hd : Fin 128 × Fin 64, Cert.Exchange.Attn.attnR
      (fun j => (∑ d' : Fin 64, (∑ k : Fin 512, x (ix3 b i k) * wq (ix2 k (finProdFinEquiv (hd.1, d')))) * kk (ix4 b j hd.1 d')) * eighth)
      (fun j => vv (ix4 b j hd.1 hd.2)) * wo (ix2 (finProdFinEquiv hd) n) := by
  have hval : ∀ p : Fin 128 × Fin 64, (finProdFinEquiv p : Fin (128 * 64)).val = p.1.val * 64 + p.2.val := fun p => by
    show p.2.val + 64 * p.1.val = _
    omega
  unfold result
  have hk := fun k => contrEquiv1_symm_val dot_S2x128x8192_S8192x512_S2x128x512_2_0_01_1_n_n 8192 rfl rfl k
  refine (dot_apply dot_S2x128x8192_S8192x512_S2x128x512_2_0_01_1_n_n 8192 rfl rfl _ wo (ix3 b i n) (fun e => ix3 b i e) (fun e => ix2 e n)
    (fun k => fun | 0 => rfl | 1 => rfl | 2 => hk k) (fun k => fun | 0 => hk k | 1 => rfl)).trans ?_
  rw [← Equiv.sum_comp (finProdFinEquiv : Fin 128 × Fin 64 ≃ Fin 8192)]
  refine Finset.sum_congr rfl fun hd _ => congrArg (· * wo (ix2 (finProdFinEquiv hd) n)) ?_
  rw [shapeCast_apply _ _ _ (ix4 b i hd.1 hd.2) (by
    rw [Shape.rowMajor_val_three, Shape.rowMajor_val_four]
    show ((b.val * 128 + i.val) * 128 + hd.1.val) * 64 + hd.2.val = (b.val * 128 + i.val) * 8192 + (finProdFinEquiv hd : Fin (128 * 64)).val
    rw [hval]
    omega), attended_apply]
  refine congrArg (fun s => Cert.Exchange.Attn.attnR s _) (funext fun j => (scores_apply _ kk b hd.1 i j).trans
    (congrArg (· * eighth) (Finset.sum_congr rfl fun d' _ => ?_)))
  rw [query_apply x wq b i hd.1 d' _ (hval (hd.1, d'))]

end Cert.ReferenceIdeal.Exchange

end
-- ==== Proof.Algebraic.lean ====
/- The kernel's result on every device is the reference's, when the inputs to the scores are finite. -/
module

public import proofs.«01_k».proof.Defs
public import proofs.«01_k».proof.Proof.PreFacts
public import proofs.«01_k».proof.Proof.KernelIdeal.Ends
public import proofs.«01_k».proof.Proof.KernelIdeal.AllSum
public import proofs.«01_k».proof.Proof.KernelIdeal.Heads
public import proofs.«01_k».proof.Proof.ReferenceIdeal.Values
public import Idealize.ShloMosaic.Lib.ReduceAll

@[expose] public section

noncomputable section

namespace Cert.Exchange

open Idealize.ShloMosaic Idealize.ShloMosaic.ValueIdx Idealize.SL.Sem Idealize.ShloMosaic.TcCoe
open scoped BigOperators

/-! ## The precondition at an element -/

theorem finite_of_test {S : Shape} (x : FVec Ideal S .f32) (hb : (⟨0, ![]⟩ : Shape).BroadcastsInDim S ![]) (i : S.Idx)
    (h : cmpf .olt (Host.absf x) (broadcastInDim S ![] hb (constant ⟨0, ![]⟩ .f32 0x7F800000#32)) i = 1#1) : Attn.Finite (x i) := by
  have htop : Ideal.ofBits .f32 0x7F800000#32 = ⊤ := by simp [Ideal.ofBits, Ideal.ieee]
  have h' : Ideal.cmp .olt (max (x i : EReal) (-(x i : EReal))) (Ideal.ofBits .f32 0x7F800000#32) = 1#1 := h
  rw [htop] at h'
  unfold Ideal.cmp at h'
  constructor
  · intro hx; rw [hx] at h'; simp at h'
  · intro hx; rw [hx] at h'; simp at h'

theorem pre_finite (a0 : FVec Ideal ⟨3, ![2, 128, 512]⟩ .f32) (a1 a2 : FVec Ideal ⟨2, ![512, 512]⟩ .f32)
    (a3 a4 : FVec Ideal ⟨4, ![2, 128, 8, 64]⟩ .f32)
    (h : Cert.Pre_finite_scores_KernelIdeal.fn (F := Ideal) a0 a1 a2 a3 a4 = fun _ => 1#1) :
    (∀ i, Attn.Finite (a0 i)) ∧ (∀ i, Attn.Finite (a1 i)) ∧ ∀ i, Attn.Finite (a3 i) := by
  have hs : Subsingleton (⟨0, ![]⟩ : Shape).Idx := ⟨fun _ _ => funext fun a => a.elim0⟩
  obtain ⟨h01, h3⟩ := IntOp.andi_eq_one.1 (congrFun h ix0)
  obtain ⟨h0, h1⟩ := IntOp.andi_eq_one.1 h01
  exact ⟨fun i => finite_of_test a0 _ i (Host.reduce_andi_all _ _ _ _ ix0 h0 i),
    fun i => finite_of_test a1 _ i (Host.reduce_andi_all _ _ _ _ ix0 h1 i),
    fun i => finite_of_test a3 _ i (Host.reduce_andi_all _ _ _ _ ix0 h3 i)⟩

theorem eighth_finite : Attn.Finite Cert.KernelIdeal.Exchange.eighth := by
  unfold Attn.Finite Cert.KernelIdeal.Exchange.eighth
  simp [Ideal.ofBits, Ideal.ieee]
  exact Attn.Finite.mul (Attn.finite_iff.2 ⟨_, rfl⟩) (Attn.finite_iff.2 ⟨_, rfl⟩)

/-- The working buffer's row that holds row `i` of batch `b`. -/
def rowAt (b : Fin 2) (i : Fin 128) : Fin 256 := ⟨b.val * 128 + i.val, by omega⟩

/-! ## The kernel's result at an element -/

section Kernel

open Cert.KernelIdeal Cert.KernelIdeal.Gen Cert.KernelIdeal.Exchange

variable (m : (ℓ : Loc nD τ sig) → Buf (Elt Ideal) ℓ) (ρ : Dev nD → PrngReg)

theorem in0_eq (c : Dev nD) : in0 m ρ c = m ((c : Thread nD τ).loc main_arg0) :=
  Memref.read_access_unit_zero (Elt Ideal) main_arg0 (funext fun a => by fin_cases a <;> decide) (fun a => by fin_cases a <;> decide) _
theorem in1_eq (c : Dev nD) : in1 m ρ c = m ((c : Thread nD τ).loc main_arg1) :=
  Memref.read_access_unit_zero (Elt Ideal) main_arg1 (funext fun a => by fin_cases a <;> decide) (fun a => by fin_cases a <;> decide) _
theorem in2_eq (c : Dev nD) : in2 m ρ c = m ((c : Thread nD τ).loc main_arg2) :=
  Memref.read_access_unit_zero (Elt Ideal) main_arg2 (funext fun a => by fin_cases a <;> decide) (fun a => by fin_cases a <;> decide) _
theorem in3_eq (c : Dev nD) : in3 m ρ c = m ((c : Thread nD τ).loc main_arg3) :=
  Memref.read_access_unit_zero (Elt Ideal) main_arg3 (funext fun a => by fin_cases a <;> decide) (fun a => by fin_cases a <;> decide) _
theorem in4_eq (c : Dev nD) : in4 m ρ c = m ((c : Thread nD τ).loc main_arg4) :=
  Memref.read_access_unit_zero (Elt Ideal) main_arg4 (funext fun a => by fin_cases a <;> decide) (fun a => by fin_cases a <;> decide) _

/-- A device's part, from what its arguments hold. -/
theorem part_eq (c : Dev nD) {x : FVec Ideal S2x128x512 .f32} {wq wo : FVec Ideal S512x512 .f32} {kk vv : FVec Ideal S2x128x8x64 .f32}
    (h0 : m ((c : Thread nD τ).loc main_arg0) = x) (h1 : m ((c : Thread nD τ).loc main_arg1) = wq)
    (h2 : m ((c : Thread nD τ).loc main_arg2) = wo) (h3 : m ((c : Thread nD τ).loc main_arg3) = kk)
    (h4 : m ((c : Thread nD τ).loc main_arg4) = vv) : part m ρ c = partialOf x wq wo kk vv := by
  unfold part
  rw [in0_eq, in1_eq, in2_eq, in3_eq, in4_eq, h0, h1, h2, h3, h4]

theorem outAt_apply (c : Dev nD) (b : Fin 2) (i : Fin 128) (n : Fin 512) :
    outAt m ρ c (ix3 b i n) = ∑ d : Dev nD, part m ρ d (ix2 (rowAt b i) n) := by
  have h : k0_pay1 (W (part m ρ) 8 c) (ix3 b i n) = W (part m ρ) 8 c (ix2 (rowAt b i) n) := by
    unfold k0_pay1
    exact shapeCast_apply _ _ _ _ (by
      rw [Shape.rowMajor_val_two, Shape.rowMajor_val_three]
      rfl)
  exact h.trans (W_eight (part m ρ) c _ n)

end Kernel

/-! ## The two results are one -/

section Same

variable (x : FVec Ideal ⟨3, ![2, 128, 512]⟩ .f32) (wq : FVec Ideal ⟨2, ![512, 8192]⟩ .f32) (wo : FVec Ideal ⟨2, ![8192, 512]⟩ .f32)
  (kk vv : FVec Ideal ⟨4, ![2, 128, 128, 64]⟩ .f32)

theorem wq_block (c : Fin 16) (k : Fin 512) (h : Fin 8) (d : Fin 64) :
    Layout.block ⟨2, ![512, 512]⟩ ⟨2, ![512, 8192]⟩ 1 16 c wq (by decide) (ix2 k (finProdFinEquiv (h, d)))
      = wq (ix2 k (finProdFinEquiv ((finProdFinEquiv (c, h) : Fin 128), d))) :=
  congrArg wq (funext fun
    | 0 => rfl
    | 1 => Fin.ext (by
      show c.val * 512 + (d.val + 64 * h.val) = d.val + 64 * (h.val + 8 * c.val)
      omega))

theorem wo_block (c : Fin 16) (n : Fin 512) (h : Fin 8) (d : Fin 64) :
    Layout.block ⟨2, ![512, 512]⟩ ⟨2, ![8192, 512]⟩ 0 16 c wo (by decide) (ix2 (finProdFinEquiv (h, d)) n)
      = wo (ix2 (finProdFinEquiv ((finProdFinEquiv (c, h) : Fin 128), d)) n) :=
  congrArg wo (funext fun
    | 0 => Fin.ext (by
      show c.val * 512 + (d.val + 64 * h.val) = d.val + 64 * (h.val + 8 * c.val)
      omega)
    | 1 => rfl)

theorem heads_block (c : Fin 16) (b : Fin 2) (j : Fin 128) (h : Fin 8) (d : Fin 64) :
    Layout.block ⟨4, ![2, 128, 8, 64]⟩ ⟨4, ![2, 128, 128, 64]⟩ 2 16 c kk (by decide) (ix4 b j h d)
      = kk (ix4 b j (finProdFinEquiv (c, h) : Fin 128) d) :=
  congrArg kk (funext fun
    | 0 => rfl
    | 1 => rfl
    | 2 => Fin.ext (by
      show c.val * 8 + h.val = h.val + 8 * c.val
      omega)
    | 3 => rfl)

/-- The parts of the sixteen devices add up to the reference's result. -/
theorem sum_parts
    (hx : ∀ i, Attn.Finite (x i))
    (hq : ∀ c i, Attn.Finite (Layout.block ⟨2, ![512, 512]⟩ ⟨2, ![512, 8192]⟩ 1 16 c wq (by decide) i))
    (hk : ∀ c i, Attn.Finite (Layout.block ⟨4, ![2, 128, 8, 64]⟩ ⟨4, ![2, 128, 128, 64]⟩ 2 16 c kk (by decide) i))
    (b : Fin 2) (i : Fin 128) (n : Fin 512) (r : Fin 256) (hr : r.val = b.val * 128 + i.val) :
    ∑ c : Fin 16, Cert.KernelIdeal.Exchange.partialOf x
        (Layout.block ⟨2, ![512, 512]⟩ ⟨2, ![512, 8192]⟩ 1 16 c wq (by decide)) (Layout.block ⟨2, ![512, 512]⟩ ⟨2, ![8192, 512]⟩ 0 16 c wo (by decide))
        (Layout.block ⟨4, ![2, 128, 8, 64]⟩ ⟨4, ![2, 128, 128, 64]⟩ 2 16 c kk (by decide))
        (Layout.block ⟨4, ![2, 128, 8, 64]⟩ ⟨4, ![2, 128, 128, 64]⟩ 2 16 c vv (by decide)) (ix2 r n)
      = Cert.ReferenceIdeal.Exchange.result x wq wo kk vv (ix3 b i n) := by
  rw [Cert.ReferenceIdeal.Exchange.result_apply, Fintype.sum_prod_type, ← Equiv.sum_comp (finProdFinEquiv : Fin 16 × Fin 8 ≃ Fin 128),
    Fintype.sum_prod_type]
  refine Finset.sum_congr rfl fun c _ => ?_
  rw [Cert.KernelIdeal.Exchange.partialOf_apply _ _ _ _ _ b i n r hr, Fintype.sum_prod_type]
  refine Finset.sum_congr rfl fun h _ => Finset.sum_congr rfl fun d _ => ?_
  rw [Attn.attn_eq (by omega) _ _ fun j => Attn.Finite.mul (Attn.Finite.sum _ fun d' =>
    Attn.Finite.mul (Attn.Finite.sum _ fun k => Attn.Finite.mul (hx _) (hq c _)) (hk c _)) eighth_finite]
  simp only [wq_block, wo_block, heads_block]
  rfl

end Same

theorem algebraic : Cert.algebraic_KernelIdeal_ReferenceIdeal_pre_finite_scores_KernelIdeal := by
  intro m g m' g' hpre harg
  have hpart := fun d => part_eq m g d (harg d).1 (harg d).2.1 (harg d).2.2.1 (harg d).2.2.2.1 (harg d).2.2.2.2
  refine ⟨Cert.ReferenceIdeal.Value.res_out0 m' 0, ?_, ?_⟩
  · refine (θ_run Cert.KernelIdeal.defs _ _).mono (fun _ h c => ⟨(h.1 c).1.trans ?_, (h.1 c).2⟩) (Cert.KernelIdeal.Exchange.run (F := Ideal) m g)
    rw [Cert.ReferenceIdeal.Exchange.out_eq]
    refine funext fun idx => ?_
    rw [eq_ix3 idx]
    generalize idx 0 = b, idx 1 = i, idx 2 = n
    refine (outAt_apply m g c b i n).trans ((Finset.sum_congr rfl fun d _ => congrFun (hpart d) _).trans
      (sum_parts _ _ _ _ _ ?_ ?_ ?_ b i n (rowAt b i) rfl))
    · rw [← (harg 0).1]
      exact (pre_finite _ _ _ _ _ (hpre 0)).1
    · intro d
      rw [← (harg d).2.1]
      exact (pre_finite _ _ _ _ _ (hpre d)).2.1
    · intro d
      rw [← (harg d).2.2.2.1]
      exact (pre_finite _ _ _ _ _ (hpre d)).2.2
  · exact (θ_run Cert.ReferenceIdeal.defs _ _).mono (fun _ h => h 0) (Cert.ReferenceIdeal.Value.run (F := Ideal) m' g')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.PreFacts
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem frame_k : Cert.quiescent_Kernel := fun m ρ _ =>
  (θ_run Cert.Kernel.defs _ _).mono (fun _ h => ⟨fun c => (h.1 c).2, h.2⟩) (Cert.Kernel.Exchange.run (F := Bits) m ρ)

theorem frame_ki : Cert.quiescent_KernelIdeal := fun m ρ _ =>
  (θ_run Cert.KernelIdeal.defs _ _).mono (fun _ h => ⟨fun c => (h.1 c).2, h.2⟩) (Cert.KernelIdeal.Exchange.run (F := Ideal) m ρ)

theorem frame_kip : Cert.quiescent_KernelIdeal_pre_finite_scores_KernelIdeal := fun m ρ _ =>
  (θ_run Cert.KernelIdeal.defs _ _).mono (fun _ h => ⟨fun c => (h.1 c).2, h.2⟩) (Cert.KernelIdeal.Exchange.run (F := Ideal) m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_rip : Cert.quiescent_ReferenceIdeal_pre_finite_scores_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Exchange.Pre.factsK, Cert.Exchange.Pre.factsR,
  frame_k, frame_ki, frame_kip, frame_ri, frame_rip, trivial, Cert.Exchange.algebraic⟩

end Cert.Proof

end
